-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4))
      ∧ r.2.sem = fun _ => 0)

def preserves_Kernel_KernelIdeal : Prop :=
  IdealRules.bf16_pair.BufferStatement Cert.KernelIdeal.S131072x2x128 Cert.KernelIdeal.S131072x1x128
  ∧ IdealRules.bf16_pair.BufferStatement Cert.KernelIdeal.S4096x2x128 Cert.KernelIdeal.S4096x1x128
  ∧ IdealRules.named_const.Statement Cert.KernelIdeal.κ "scale" .f32 0x3D3504F3#32 (((Real.sqrt 512)⁻¹ : ℝ) : EReal)
  ∧ IdealRules.bf16_pair.PackStatement Cert.KernelIdeal.S512x1024
  ∧ IdealRules.bf16_pair.Statement Cert.KernelIdeal.S512x2x128 Cert.KernelIdeal.S512x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v4)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v4) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v30) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v15) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v4)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v17) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v259) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)) →
    ∃ (v0 : (c : Dev Cert.DiscIdeal.nD) → Buf (Elt Ideal) ((c.tc : Thread Cert.DiscIdeal.nD Cert.DiscIdeal.τ).loc Cert.DiscIdeal.main_v3_0)) (v1 : (c : Dev Cert.DiscIdeal.nD) → Buf (Elt Ideal) ((c.tc : Thread Cert.DiscIdeal.nD Cert.DiscIdeal.τ).loc Cert.DiscIdeal.main_v3_1)) (v2 : (c : Dev Cert.DiscIdeal.nD) → Buf (Elt Ideal) ((c.tc : Thread Cert.DiscIdeal.nD Cert.DiscIdeal.τ).loc Cert.DiscIdeal.main_v3_2)) (v3 : (c : Dev Cert.DiscIdeal.nD) → Buf (Elt Ideal) ((c.tc : Thread Cert.DiscIdeal.nD Cert.DiscIdeal.τ).loc Cert.DiscIdeal.main_v3_3)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v3_0) = v0 c
          ∧ r.2.mem ((c.tc : Thread Cert.DiscIdeal.nD Cert.DiscIdeal.τ).loc Cert.DiscIdeal.main_v3_1) = v1 c
          ∧ r.2.mem ((c.tc : Thread Cert.DiscIdeal.nD Cert.DiscIdeal.τ).loc Cert.DiscIdeal.main_v3_2) = v2 c
          ∧ r.2.mem ((c.tc : Thread Cert.DiscIdeal.nD Cert.DiscIdeal.τ).loc Cert.DiscIdeal.main_v3_3) = v3 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v8) = v0 c
          ∧ r.2.mem ((c.tc : Thread Cert.DiscRefIdeal.nD Cert.DiscRefIdeal.τ).loc Cert.DiscRefIdeal.main_v10) = v1 c
          ∧ r.2.mem ((c.tc : Thread Cert.DiscRefIdeal.nD Cert.DiscRefIdeal.τ).loc Cert.DiscRefIdeal.main_v36) = v2 c
          ∧ r.2.mem ((c.tc : Thread Cert.DiscRefIdeal.nD Cert.DiscRefIdeal.τ).loc Cert.DiscRefIdeal.main_v37) = v3 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineRefIdeal : Cert.CombineRefIdeal.Facts) (hProject : Cert.Project.Facts) (hProjectIdeal : Cert.ProjectIdeal.Facts) (hProjectRefIdeal : Cert.ProjectRefIdeal.Facts) (hMemory : Cert.Memory.Facts) (hMemoryIdeal : Cert.MemoryIdeal.Facts) (hMemoryRefIdeal : Cert.MemoryRefIdeal.Facts) (hConv : Cert.Conv.Facts) (hConvIdeal : Cert.ConvIdeal.Facts) (hConvRefIdeal : Cert.ConvRefIdeal.Facts) (hDisc : Cert.Disc.Facts) (hDiscIdeal : Cert.DiscIdeal.Facts) (hDiscRefIdeal : Cert.DiscRefIdeal.Facts),
    quiescent_Kernel (hKernel := hKernel)
    ∧ quiescent_KernelIdeal (hKernelIdeal := hKernelIdeal)
    ∧ quiescent_ReferenceIdeal (hReferenceIdeal := hReferenceIdeal)
    ∧ quiescent_Combine (hCombine := hCombine)
    ∧ quiescent_CombineIdeal (hCombineIdeal := hCombineIdeal)
    ∧ quiescent_CombineRefIdeal (hCombineRefIdeal := hCombineRefIdeal)
    ∧ quiescent_Project (hProject := hProject)
    ∧ quiescent_ProjectIdeal (hProjectIdeal := hProjectIdeal)
    ∧ quiescent_ProjectRefIdeal (hProjectRefIdeal := hProjectRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Conv (hConv := hConv)
    ∧ quiescent_ConvIdeal (hConvIdeal := hConvIdeal)
    ∧ quiescent_ConvRefIdeal (hConvRefIdeal := hConvRefIdeal)
    ∧ quiescent_Disc (hDisc := hDisc)
    ∧ quiescent_DiscIdeal (hDiscIdeal := hDiscIdeal)
    ∧ quiescent_DiscRefIdeal (hDiscRefIdeal := hDiscRefIdeal)
    ∧ preserves_Kernel_KernelIdeal
    ∧ algebraic_KernelIdeal_ReferenceIdeal (hKernelIdeal := hKernelIdeal) (hReferenceIdeal := hReferenceIdeal)
    ∧ preserves_Combine_CombineIdeal
    ∧ algebraic_CombineIdeal_CombineRefIdeal (hCombineIdeal := hCombineIdeal) (hCombineRefIdeal := hCombineRefIdeal)
    ∧ preserves_Project_ProjectIdeal
    ∧ algebraic_ProjectIdeal_ProjectRefIdeal (hProjectIdeal := hProjectIdeal) (hProjectRefIdeal := hProjectRefIdeal)
    ∧ preserves_Memory_MemoryIdeal
    ∧ algebraic_MemoryIdeal_MemoryRefIdeal (hMemoryIdeal := hMemoryIdeal) (hMemoryRefIdeal := hMemoryRefIdeal)
    ∧ preserves_Conv_ConvIdeal
    ∧ algebraic_ConvIdeal_ConvRefIdeal (hConvIdeal := hConvIdeal) (hConvRefIdeal := hConvRefIdeal)
    ∧ preserves_Disc_DiscIdeal
    ∧ algebraic_DiscIdeal_DiscRefIdeal (hDiscIdeal := hDiscIdeal) (hDiscRefIdeal := hDiscRefIdeal)
-- ==== Kernel.lean ====
abbrev S2x8192x2048 : Shape := ⟨3, ![2, 8192, 2048]⟩
abbrev S2048 : Shape := ⟨1, ![2048]⟩
abbrev S2048x2048 : Shape := ⟨2, ![2048, 2048]⟩
abbrev S512x4096 : Shape := ⟨2, ![512, 4096]⟩
abbrev S2048x8 : Shape := ⟨2, ![2048, 8]⟩
abbrev S8 : Shape := ⟨1, ![8]⟩
abbrev S8x2048x8 : Shape := ⟨3, ![8, 2048, 8]⟩
abbrev S8x8 : Shape := ⟨2, ![8, 8]⟩
abbrev S16384x2048 : Shape := ⟨2, ![16384, 2048]⟩
abbrev S2048x8x8 : Shape := ⟨3, ![2048, 8, 8]⟩
abbrev S2048x64 : Shape := ⟨2, ![2048, 64]⟩
abbrev S2048x72 : Shape := ⟨2, ![2048, 72]⟩
abbrev S64 : Shape := ⟨1, ![64]⟩
abbrev S72 : Shape := ⟨1, ![72]⟩
abbrev S_ : Shape := ⟨0, ![]⟩
abbrev S2048x128 : Shape := ⟨2, ![2048, 128]⟩
abbrev S2048x256 : Shape := ⟨2, ![2048, 256]⟩
abbrev S128 : Shape := ⟨1, ![128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x2048 : Shape := ⟨2, ![1, 2048]⟩
abbrev S131072x128 : Shape := ⟨2, ![131072, 128]⟩
abbrev S16384x128 : Shape := ⟨2, ![16384, 128]⟩
abbrev S8x16384 : Shape := ⟨2, ![8, 16384]⟩
abbrev S512x2048 : Shape := ⟨2, ![512, 2048]⟩
abbrev S256x4096 : Shape := ⟨2, ![256, 4096]⟩
abbrev S4096x128 : Shape := ⟨2, ![4096, 128]⟩
abbrev S512x128 : Shape := ⟨2, ![512, 128]⟩
abbrev S8x512 : Shape := ⟨2, ![8, 512]⟩
abbrev S2048x512 : Shape := ⟨2, ![2048, 512]⟩
abbrev S256x512 : Shape := ⟨2, ![256, 512]⟩
abbrev S512x256 : Shape := ⟨2, ![512, 256]⟩
abbrev S512x1024 : Shape := ⟨2, ![512, 1024]⟩
abbrev S128x512 : Shape := ⟨2, ![128, 512]⟩

abbrev nBuf : Space → Nat
  | .hbm => 45
  | .vmem => 21
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x2048, .f32⟩
  | .hbm, ⟨3, _⟩ => ⟨S512x4096, .bf16⟩
  | .hbm, ⟨4, _⟩ => ⟨S2048x2048, .f32⟩
  | .hbm, ⟨5, _⟩ => ⟨S2048, .f32⟩
  | .hbm, ⟨6, _⟩ => ⟨S2048x8, .f32⟩
  | .hbm, ⟨7, _⟩ => ⟨S8, .f32⟩
  | .hbm, ⟨8, _⟩ => ⟨S8x2048x8, .f32⟩
  | .hbm, ⟨9, _⟩ => ⟨S8x8, .f32⟩
  | .hbm, ⟨10, _⟩ => ⟨S16384x2048, .f32⟩
  | .hbm, ⟨11, _⟩ => ⟨S2048x8x8, .f32⟩
  | .hbm, ⟨12, _⟩ => ⟨S2048x64, .f32⟩
  | .hbm, ⟨13, _⟩ => ⟨S2048x72, .f32⟩
  | .hbm, ⟨14, _⟩ => ⟨S64, .f32⟩
  | .hbm, ⟨15, _⟩ => ⟨S72, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S2048x128, .bf16⟩
  | .hbm, ⟨20, _⟩ => ⟨S2048x128, .f32⟩
  | .hbm, ⟨21, _⟩ => ⟨S2048x128, .f32⟩
  | .hbm, ⟨22, _⟩ => ⟨S2048x128, .bf16⟩
  | .hbm, ⟨23, _⟩ => ⟨S2048x256, .bf16⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S2048x2048, .bf16⟩
  | .hbm, ⟨29, _⟩ => ⟨S2048x2048, .bf16⟩
  | .hbm, ⟨30, _⟩ => ⟨S512, .i32⟩
  | .hbm, ⟨31, _⟩ => ⟨S512x1, .i32⟩
  | .hbm, ⟨32, _⟩ => ⟨S512, .i32⟩
  | .hbm, ⟨33, _⟩ => ⟨S1x512, .i32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S512x512, .bf16⟩
  | .hbm, ⟨38, _⟩ => ⟨S1x2048, .f32⟩
  | .hbm, ⟨39, _⟩ => ⟨S1x2048, .f32⟩
  | .hbm, ⟨40, _⟩ => ⟨S16384x2048, .f32⟩
  | .hbm, ⟨41, _⟩ => ⟨S131072x128, .i32⟩
  | .hbm, ⟨42, _⟩ => ⟨S16384x128, .f32⟩
  | .hbm, ⟨43, _⟩ => ⟨S8x16384, .f32⟩
  | .hbm, ⟨44, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S256x4096, .bf16⟩
  | .local _ .vmem, ⟨5, _⟩ => ⟨S256x4096, .bf16⟩
  | .local _ .vmem, ⟨6, _⟩ => ⟨S2048x2048, .bf16⟩
  | .local _ .vmem, ⟨7, _⟩ => ⟨S1x2048, .f32⟩
  | .local _ .vmem, ⟨8, _⟩ => ⟨S2048x256, .bf16⟩
  | .local _ .vmem, ⟨9, _⟩ => ⟨S1x128, .f32⟩
  | .local _ .vmem, ⟨10, _⟩ => ⟨S512x512, .bf16⟩
  | .local _ .vmem, ⟨11, _⟩ => ⟨S512x2048, .f32⟩
  | .local _ .vmem, ⟨12, _⟩ => ⟨S512x2048, .f32⟩
  | .local _ .vmem, ⟨13, _⟩ => ⟨S4096x128, .i32⟩
  | .local _ .vmem, ⟨14, _⟩ => ⟨S4096x128, .i32⟩
  | .local _ .vmem, ⟨15, _⟩ => ⟨S512x128, .f32⟩
  | .local _ .vmem, ⟨16, _⟩ => ⟨S512x128, .f32⟩
  | .local _ .vmem, ⟨17, _⟩ => ⟨S8x512, .f32⟩
  | .local _ .vmem, ⟨18, _⟩ => ⟨S8x512, .f32⟩
  | .local _ .vmem, ⟨19, _⟩ => ⟨S1x128, .f32⟩
  | .local _ .vmem, ⟨20, _⟩ => ⟨S1x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev main_v26_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [BitOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== KernelIdeal.lean ====
abbrev S2x8192x2048 : Shape := ⟨3, ![2, 8192, 2048]⟩
abbrev S2048 : Shape := ⟨1, ![2048]⟩
abbrev S2048x2048 : Shape := ⟨2, ![2048, 2048]⟩
abbrev S512x4096 : Shape := ⟨2, ![512, 4096]⟩
abbrev S2048x8 : Shape := ⟨2, ![2048, 8]⟩
abbrev S8 : Shape := ⟨1, ![8]⟩
abbrev S8x2048x8 : Shape := ⟨3, ![8, 2048, 8]⟩
abbrev S8x8 : Shape := ⟨2, ![8, 8]⟩
abbrev S16384x2048 : Shape := ⟨2, ![16384, 2048]⟩
abbrev S2048x8x8 : Shape := ⟨3, ![2048, 8, 8]⟩
abbrev S2048x64 : Shape := ⟨2, ![2048, 64]⟩
abbrev S2048x72 : Shape := ⟨2, ![2048, 72]⟩
abbrev S64 : Shape := ⟨1, ![64]⟩
abbrev S72 : Shape := ⟨1, ![72]⟩
abbrev S_ : Shape := ⟨0, ![]⟩
abbrev S2048x128 : Shape := ⟨2, ![2048, 128]⟩
abbrev S2048x256 : Shape := ⟨2, ![2048, 256]⟩
abbrev S128 : Shape := ⟨1, ![128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x2048 : Shape := ⟨2, ![1, 2048]⟩
abbrev S131072x2x128 : Shape := ⟨3, ![131072, 2, 128]⟩
abbrev S16384x128 : Shape := ⟨2, ![16384, 128]⟩
abbrev S8x16384 : Shape := ⟨2, ![8, 16384]⟩
abbrev S131072x1x128 : Shape := ⟨3, ![131072, 1, 128]⟩
abbrev S131072x128 : Shape := ⟨2, ![131072, 128]⟩
abbrev S512x2048 : Shape := ⟨2, ![512, 2048]⟩
abbrev S256x4096 : Shape := ⟨2, ![256, 4096]⟩
abbrev S4096x128 : Shape := ⟨2, ![4096, 128]⟩
abbrev S4096x2x128 : Shape := ⟨3, ![4096, 2, 128]⟩
abbrev S4096x1x128 : Shape := ⟨3, ![4096, 1, 128]⟩
abbrev S512x128 : Shape := ⟨2, ![512, 128]⟩
abbrev S8x512 : Shape := ⟨2, ![8, 512]⟩
abbrev S2048x512 : Shape := ⟨2, ![2048, 512]⟩
abbrev S256x512 : Shape := ⟨2, ![256, 512]⟩
abbrev S512x256 : Shape := ⟨2, ![512, 256]⟩
abbrev S512x1024 : Shape := ⟨2, ![512, 1024]⟩
abbrev S512x2x128 : Shape := ⟨3, ![512, 2, 128]⟩
abbrev S512x1x128 : Shape := ⟨3, ![512, 1, 128]⟩
abbrev S128x512 : Shape := ⟨2, ![128, 512]⟩

abbrev nBuf : Space → Nat
  | .hbm => 45
  | .vmem => 21
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x2048, .f32⟩
  | .hbm, ⟨3, _⟩ => ⟨S512x4096, .bf16⟩
  | .hbm, ⟨4, _⟩ => ⟨S2048x2048, .f32⟩
  | .hbm, ⟨5, _⟩ => ⟨S2048, .f32⟩
  | .hbm, ⟨6, _⟩ => ⟨S2048x8, .f32⟩
  | .hbm, ⟨7, _⟩ => ⟨S8, .f32⟩
  | .hbm, ⟨8, _⟩ => ⟨S8x2048x8, .f32⟩
  | .hbm, ⟨9, _⟩ => ⟨S8x8, .f32⟩
  | .hbm, ⟨10, _⟩ => ⟨S16384x2048, .f32⟩
  | .hbm, ⟨11, _⟩ => ⟨S2048x8x8, .f32⟩
  | .hbm, ⟨12, _⟩ => ⟨S2048x64, .f32⟩
  | .hbm, ⟨13, _⟩ => ⟨S2048x72, .f32⟩
  | .hbm, ⟨14, _⟩ => ⟨S64, .f32⟩
  | .hbm, ⟨15, _⟩ => ⟨S72, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S2048x128, .bf16⟩
  | .hbm, ⟨20, _⟩ => ⟨S2048x128, .f32⟩
  | .hbm, ⟨21, _⟩ => ⟨S2048x128, .f32⟩
  | .hbm, ⟨22, _⟩ => ⟨S2048x128, .bf16⟩
  | .hbm, ⟨23, _⟩ => ⟨S2048x256, .bf16⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S2048x2048, .bf16⟩
  | .hbm, ⟨29, _⟩ => ⟨S2048x2048, .bf16⟩
  | .hbm, ⟨30, _⟩ => ⟨S512, .i32⟩
  | .hbm, ⟨31, _⟩ => ⟨S512x1, .i32⟩
  | .hbm, ⟨32, _⟩ => ⟨S512, .i32⟩
  | .hbm, ⟨33, _⟩ => ⟨S1x512, .i32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S512x512, .bf16⟩
  | .hbm, ⟨38, _⟩ => ⟨S1x2048, .f32⟩
  | .hbm, ⟨39, _⟩ => ⟨S1x2048, .f32⟩
  | .hbm, ⟨40, _⟩ => ⟨S16384x2048, .f32⟩
  | .hbm, ⟨41, _⟩ => ⟨S131072x2x128, .bf16⟩
  | .hbm, ⟨42, _⟩ => ⟨S16384x128, .f32⟩
  | .hbm, ⟨43, _⟩ => ⟨S8x16384, .f32⟩
  | .hbm, ⟨44, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S256x4096, .bf16⟩
  | .local _ .vmem, ⟨5, _⟩ => ⟨S256x4096, .bf16⟩
  | .local _ .vmem, ⟨6, _⟩ => ⟨S2048x2048, .bf16⟩
  | .local _ .vmem, ⟨7, _⟩ => ⟨S1x2048, .f32⟩
  | .local _ .vmem, ⟨8, _⟩ => ⟨S2048x256, .bf16⟩
  | .local _ .vmem, ⟨9, _⟩ => ⟨S1x128, .f32⟩
  | .local _ .vmem, ⟨10, _⟩ => ⟨S512x512, .bf16⟩
  | .local _ .vmem, ⟨11, _⟩ => ⟨S512x2048, .f32⟩
  | .local _ .vmem, ⟨12, _⟩ => ⟨S512x2048, .f32⟩
  | .local _ .vmem, ⟨13, _⟩ => ⟨S4096x2x128, .bf16⟩
  | .local _ .vmem, ⟨14, _⟩ => ⟨S4096x2x128, .bf16⟩
  | .local _ .vmem, ⟨15, _⟩ => ⟨S512x128, .f32⟩
  | .local _ .vmem, ⟨16, _⟩ => ⟨S512x128, .f32⟩
  | .local _ .vmem, ⟨17, _⟩ => ⟨S8x512, .f32⟩
  | .local _ .vmem, ⟨18, _⟩ => ⟨S8x512, .f32⟩
  | .local _ .vmem, ⟨19, _⟩ => ⟨S1x128, .f32⟩
  | .local _ .vmem, ⟨20, _⟩ => ⟨S1x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev main_v26_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F] [Named F]

def κ : String → Option EReal := fun
  | "scale" => some (((Real.sqrt 512)⁻¹ : ℝ) : EReal)
  | _ => none

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, 0, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x2x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S2x8192x2048 : Shape := ⟨3, ![2, 8192, 2048]⟩
abbrev S2048 : Shape := ⟨1, ![2048]⟩
abbrev S2048x2048 : Shape := ⟨2, ![2048, 2048]⟩
abbrev S512x4096 : Shape := ⟨2, ![512, 4096]⟩
abbrev S2048x8 : Shape := ⟨2, ![2048, 8]⟩
abbrev S8 : Shape := ⟨1, ![8]⟩
abbrev S8x2048x8 : Shape := ⟨3, ![8, 2048, 8]⟩
abbrev S8x8 : Shape := ⟨2, ![8, 8]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x4x512 : Shape := ⟨4, ![2, 8192, 4, 512]⟩
abbrev S512x2048 : Shape := ⟨2, ![512, 2048]⟩
abbrev S2x256x4x512 : Shape := ⟨4, ![2, 256, 4, 512]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x512x8192 : Shape := ⟨4, ![2, 4, 512, 8192]⟩
abbrev S16384x2048 : Shape := ⟨2, ![16384, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x2048, .f32⟩
  | .hbm, ⟨3, _⟩ => ⟨S512x4096, .bf16⟩
  | .hbm, ⟨4, _⟩ => ⟨S2048x2048, .f32⟩
  | .hbm, ⟨5, _⟩ => ⟨S2048, .f32⟩
  | .hbm, ⟨6, _⟩ => ⟨S2048x8, .f32⟩
  | .hbm, ⟨7, _⟩ => ⟨S8, .f32⟩
  | .hbm, ⟨8, _⟩ => ⟨S8x2048x8, .f32⟩
  | .hbm, ⟨9, _⟩ => ⟨S8x8, .f32⟩
  | .hbm, ⟨10, _⟩ => ⟨S2x8192x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x4x512, .f32⟩
  | .hbm, ⟨28, _⟩ => ⟨S512x2048, .bf16⟩
  | .hbm, ⟨29, _⟩ => ⟨S512x2048, .f32⟩
  | .hbm, ⟨30, _⟩ => ⟨S2x256x4x512, .f32⟩
  | .hbm, ⟨31, _⟩ => ⟨S512x2048, .bf16⟩
  | .hbm, ⟨32, _⟩ => ⟨S512x2048, .f32⟩
  | .hbm, ⟨33, _⟩ => ⟨S2x256x4x512, .f32⟩
  | .hbm, ⟨34, _⟩ => ⟨S2x4x8192x256, .f32⟩
  | .hbm, ⟨35, _⟩ => ⟨S_, .f32⟩
  | .hbm, ⟨36, _⟩ => ⟨S_, .f32⟩
  | .hbm, ⟨37, _⟩ => ⟨S2x4x8192x256, .f32⟩
  | .hbm, ⟨38, _⟩ => ⟨S2x4x8192x256, .f32⟩
  | .hbm, ⟨39, _⟩ => ⟨S_, .f32⟩
  | .hbm, ⟨40, _⟩ => ⟨S2x4x8192, .f32⟩
  | .hbm, ⟨41, _⟩ => ⟨S_, .f32⟩
  | .hbm, ⟨42, _⟩ => ⟨S2x4x8192, .f32⟩
  | .hbm, ⟨43, _⟩ => ⟨S2x4x8192, .f32⟩
  | .hbm, ⟨44, _⟩ => ⟨S2x4x8192x1, .f32⟩
  | .hbm, ⟨45, _⟩ => ⟨S2x4x8192x256, .f32⟩
  | .hbm, ⟨46, _⟩ => ⟨S2x4x8192x256, .f32⟩
  | .hbm, ⟨47, _⟩ => ⟨S2x4x8192x256, .f32⟩
  | .hbm, ⟨48, _⟩ => ⟨S_, .f32⟩
  | .hbm, ⟨49, _⟩ => ⟨S2x4x8192, .f32⟩
  | .hbm, ⟨50, _⟩ => ⟨S2x4x8192x1, .f32⟩
  | .hbm, ⟨51, _⟩ => ⟨S2x4x8192x256, .f32⟩
  | .hbm, ⟨52, _⟩ => ⟨S2x4x8192x256, .f32⟩
  | .hbm, ⟨53, _⟩ => ⟨S2x4x512x8192, .f32⟩
  | .hbm, ⟨54, _⟩ => ⟨S2x8192x4x512, .f32⟩
  | .hbm, ⟨55, _⟩ => ⟨S2x8192x2048, .f32⟩
  | .hbm, ⟨56, _⟩ => ⟨S2x8192x2048, .f32⟩
  | .hbm, ⟨57, _⟩ => ⟨S2x8192x2048, .f32⟩
  | .hbm, ⟨58, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Combine.lean ====
abbrev S2x8192x2048 : Shape := ⟨3, ![2, 8192, 2048]⟩
abbrev S2048 : Shape := ⟨1, ![2048]⟩
abbrev S2048x7168 : Shape := ⟨2, ![2048, 7168]⟩
abbrev S16384x2048 : Shape := ⟨2, ![16384, 2048]⟩
abbrev S2048x2048 : Shape := ⟨2, ![2048, 2048]⟩
abbrev S1x2048 : Shape := ⟨2, ![1, 2048]⟩
abbrev S256x2048 : Shape := ⟨2, ![256, 2048]⟩
abbrev S2048x1024 : Shape := ⟨2, ![2048, 1024]⟩
abbrev S256 : Shape := ⟨1, ![256]⟩
abbrev S256x1 : Shape := ⟨2, ![256, 1]⟩
abbrev S256x1024 : Shape := ⟨2, ![256, 1024]⟩
abbrev S1024x2048 : Shape := ⟨2, ![1024, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x7168, .f32⟩
  | .hbm, ⟨3, _⟩ => ⟨S16384x2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S2048x7168, .bf16⟩
  | .hbm, ⟨8, _⟩ => ⟨S2048x2048, .bf16⟩
  | .hbm, ⟨9, _⟩ => ⟨S1x2048, .f32⟩
  | .hbm, ⟨10, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S2048x2048, .bf16⟩
  | .local _ .vmem, ⟨12, _⟩ => ⟨S256x2048, .f32⟩
  | .local _ .vmem, ⟨13, _⟩ => ⟨S256x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_3 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_4 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_5 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CombineRefIdeal.lean ====
abbrev S2x8192x2048 : Shape := ⟨3, ![2, 8192, 2048]⟩
abbrev S2048 : Shape := ⟨1, ![2048]⟩
abbrev S2048x7168 : Shape := ⟨2, ![2048, 7168]⟩
abbrev S16384x2048 : Shape := ⟨2, ![16384, 2048]⟩
abbrev S2048x2048 : Shape := ⟨2, ![2048, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x7168 : Shape := ⟨3, ![2, 8192, 7168]⟩
abbrev S2x8192x4096 : Shape := ⟨3, ![2, 8192, 4096]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x7168, .f32⟩
  | .hbm, ⟨3, _⟩ => ⟨S16384x2048, .f32⟩
  | .hbm, ⟨4, _⟩ => ⟨S16384x2048, .f32⟩
  | .hbm, ⟨5, _⟩ => ⟨S2048x2048, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S2x8192x7168, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S_, .f32⟩
  | .hbm, ⟨27, _⟩ => ⟨S2x8192x4096, .f32⟩
  | .hbm, ⟨28, _⟩ => ⟨S2x8192x4096, .f32⟩
  | .hbm, ⟨29, _⟩ => ⟨S_, .f32⟩
  | .hbm, ⟨30, _⟩ => ⟨S2x8192x4096, .f32⟩
  | .hbm, ⟨31, _⟩ => ⟨S2x8192x4096, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Project.lean ====
abbrev S2x8192x2048 : Shape := ⟨3, ![2, 8192, 2048]⟩
abbrev S2048 : Shape := ⟨1, ![2048]⟩
abbrev S2048x7168 : Shape := ⟨2, ![2048, 7168]⟩
abbrev S16384x2048 : Shape := ⟨2, ![16384, 2048]⟩
abbrev S1x2048 : Shape := ⟨2, ![1, 2048]⟩
abbrev S16384x3072 : Shape := ⟨2, ![16384, 3072]⟩
abbrev S512x2048 : Shape := ⟨2, ![512, 2048]⟩
abbrev S2048x3072 : Shape := ⟨2, ![2048, 3072]⟩
abbrev S512x3072 : Shape := ⟨2, ![512, 3072]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x7168, .f32⟩
  | .hbm, ⟨3, _⟩ => ⟨S16384x2048, .f32⟩
  | .hbm, ⟨4, _⟩ => ⟨S2048x7168, .bf16⟩
  | .hbm, ⟨5, _⟩ => ⟨S1x2048, .f32⟩
  | .hbm, ⟨6, _⟩ => ⟨S16384x3072, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S512x3072, .f32⟩
  | .local _ .vmem, ⟨5, _⟩ => ⟨S512x3072, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectRefIdeal.lean ====
abbrev S2x8192x2048 : Shape := ⟨3, ![2, 8192, 2048]⟩
abbrev S2048 : Shape := ⟨1, ![2048]⟩
abbrev S2048x7168 : Shape := ⟨2, ![2048, 7168]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x7168 : Shape := ⟨3, ![2, 8192, 7168]⟩
abbrev S2x8192x3072 : Shape := ⟨3, ![2, 8192, 3072]⟩
abbrev S16384x3072 : Shape := ⟨2, ![16384, 3072]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x7168, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x1x2048, .f32⟩
  | .hbm, ⟨17, _⟩ => ⟨S2x8192x2048, .f32⟩
  | .hbm, ⟨18, _⟩ => ⟨S2x8192x2048, .f32⟩
  | .hbm, ⟨19, _⟩ => ⟨S2x8192x7168, .f32⟩
  | .hbm, ⟨20, _⟩ => ⟨S2x8192x3072, .f32⟩
  | .hbm, ⟨21, _⟩ => ⟨S16384x3072, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Memory.lean ====
abbrev S2x256x2048 : Shape := ⟨3, ![2, 256, 2048]⟩
abbrev S2048 : Shape := ⟨1, ![2048]⟩
abbrev S2048x2048 : Shape := ⟨2, ![2048, 2048]⟩
abbrev S2048x4096 : Shape := ⟨2, ![2048, 4096]⟩
abbrev S512x2048 : Shape := ⟨2, ![512, 2048]⟩
abbrev S1x2048 : Shape := ⟨2, ![1, 2048]⟩
abbrev S512x4096 : Shape := ⟨2, ![512, 4096]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x4096, .f32⟩
  | .hbm, ⟨5, _⟩ => ⟨S2048x4096, .bf16⟩
  | .hbm, ⟨6, _⟩ => ⟨S512x2048, .f32⟩
  | .hbm, ⟨7, _⟩ => ⟨S1x2048, .f32⟩
  | .hbm, ⟨8, _⟩ => ⟨S512x4096, .bf16⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemoryRefIdeal.lean ====
abbrev S2x256x2048 : Shape := ⟨3, ![2, 256, 2048]⟩
abbrev S2048 : Shape := ⟨1, ![2048]⟩
abbrev S2048x2048 : Shape := ⟨2, ![2048, 2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x4096 : Shape := ⟨3, ![2, 256, 4096]⟩
abbrev S512x4096 : Shape := ⟨2, ![512, 4096]⟩

abbrev nBuf : Space → Nat
  | .hbm => 25
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S2x256x2048, .f32⟩
  | .hbm, ⟨22, _⟩ => ⟨S2x256x4096, .f32⟩
  | .hbm, ⟨23, _⟩ => ⟨S512x4096, .f32⟩
  | .hbm, ⟨24, _⟩ => ⟨S512x4096, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Conv.lean ====
abbrev S16384x3072 : Shape := ⟨2, ![16384, 3072]⟩
abbrev S31x1024 : Shape := ⟨2, ![31, 1024]⟩
abbrev S1024 : Shape := ⟨1, ![1024]⟩
abbrev S1024x2048 : Shape := ⟨2, ![1024, 2048]⟩
abbrev S1x1024 : Shape := ⟨2, ![1, 1024]⟩
abbrev S16384x2048 : Shape := ⟨2, ![16384, 2048]⟩
abbrev S512x1024 : Shape := ⟨2, ![512, 1024]⟩
abbrev S32x1024 : Shape := ⟨2, ![32, 1024]⟩
abbrev S512x2048 : Shape := ⟨2, ![512, 2048]⟩
abbrev S8x544x128 : Shape := ⟨3, ![8, 544, 128]⟩
abbrev S32x8x1024 : Shape := ⟨3, ![32, 8, 1024]⟩
abbrev S32x128 : Shape := ⟨2, ![32, 128]⟩
abbrev S1x32x128 : Shape := ⟨3, ![1, 32, 128]⟩
abbrev S512x128 : Shape := ⟨2, ![512, 128]⟩
abbrev S1x512x128 : Shape := ⟨3, ![1, 512, 128]⟩
abbrev S8x1024 : Shape := ⟨2, ![8, 1024]⟩
abbrev S1x8x1024 : Shape := ⟨3, ![1, 8, 1024]⟩
abbrev S1x8x128 : Shape := ⟨3, ![1, 8, 128]⟩
abbrev S8x128 : Shape := ⟨2, ![8, 128]⟩
abbrev S512 : Shape := ⟨1, ![512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S16384x3072, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2048, .f32⟩
  | .hbm, ⟨6, _⟩ => ⟨S1024x2048, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x2048, .bf16⟩
  | .local _ .vmem, ⟨13, _⟩ => ⟨S512x2048, .f32⟩
  | .local _ .vmem, ⟨14, _⟩ => ⟨S512x2048, .f32⟩
  | .local _ .vmem, ⟨15, _⟩ => ⟨S8x544x128, .f32⟩
  | .local _ .vmem, ⟨16, _⟩ => ⟨S32x8x1024, .f32⟩
  | .local _ .vmem, ⟨17, _⟩ => ⟨S512x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_55 : BitVec 32 := 0#32
  let c8_i32 : BitVec 32 := 8#32
  let v90 : BitVec 32 := Scalar.addi c0_i32_55 c8_i32
  let c1_i32 : BitVec 32 := 1#32
  ⟨c0_i32_55, v90, c1_i32⟩
def k0_mult1 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  v131
def k0_off1 (k0_t1 : Fin k0_t1_loop.trips) (c0_i32_81 : BitVec 32) (c0_i32_82 : BitVec 32) : Fin 3 → Nat :=
  let c0_83 : Index := 0#32
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v137 : BitVec 32 := Scalar.addi v132 c0_i32_81
  let c2_i32 : BitVec 32 := 2#32
  let v138 : BitVec 32 := Scalar.addi v137 c2_i32
  let v139 : BitVec 32 := Scalar.addi v138 c0_i32_82
  let v140 : Index := Scalar.indexCast v139
  let c0_84 : Index := 0#32
  ![0, v140.toNat, 0]
def k0_mult2 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c0_i32_1356 : BitVec 32 := 0#32
  let v2181 : BitVec 32 := Scalar.addi v132 c0_i32_1356
  v2181
def k0_off2 (k0_t1 : Fin k0_t1_loop.trips) (c0_i32_1356 : BitVec 32) : Fin 2 → Nat :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v2181 : BitVec 32 := Scalar.addi v132 c0_i32_1356
  let v2182 : BitVec 32 := v2181
  let v2183 : Index := Scalar.indexCast v2182
  let c0_1357 : Index := 0#32
  ![v2183.toNat, 0]
def k0_mult3 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c8_i32_1358 : BitVec 32 := 8#32
  let v2187 : BitVec 32 := Scalar.addi v132 c8_i32_1358
  v2187
def k0_mult4 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c16_i32_1360 : BitVec 32 := 16#32
  let v2193 : BitVec 32 := Scalar.addi v132 c16_i32_1360
  v2193
def k0_mult5 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c24_i32_1362 : BitVec 32 := 24#32
  let v2199 : BitVec 32 := Scalar.addi v132 c24_i32_1362
  v2199
def k0_mult6 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c32_i32_1364 : BitVec 32 := 32#32
  let v2205 : BitVec 32 := Scalar.addi v132 c32_i32_1364
  v2205
def k0_mult7 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c40_i32_1366 : BitVec 32 := 40#32
  let v2211 : BitVec 32 := Scalar.addi v132 c40_i32_1366
  v2211
def k0_mult8 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c48_i32_1368 : BitVec 32 := 48#32
  let v2217 : BitVec 32 := Scalar.addi v132 c48_i32_1368
  v2217
def k0_mult9 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c56_i32_1370 : BitVec 32 := 56#32
  let v2223 : BitVec 32 := Scalar.addi v132 c56_i32_1370
  v2223
def k0_off3 (k0_t1 : Fin k0_t1_loop.trips) (c0_i32_1377 : BitVec 32) (c0_i32_1379 : BitVec 32) : Fin 3 → Nat :=
  let c1_1380 : Index := 1#32
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v2233 : BitVec 32 := Scalar.addi v132 c0_i32_1377
  let c2_i32_1378 : BitVec 32 := 2#32
  let v2234 : BitVec 32 := Scalar.addi v2233 c2_i32_1378
  let v2235 : BitVec 32 := Scalar.addi v2234 c0_i32_1379
  let v2236 : Index := Scalar.indexCast v2235
  let c0_1381 : Index := 0#32
  ![1, v2236.toNat, 0]
def k0_mult10 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c0_i32_2707 : BitVec 32 := 0#32
  let v4277 : BitVec 32 := Scalar.addi v132 c0_i32_2707
  v4277
def k0_off4 (k0_t1 : Fin k0_t1_loop.trips) (c0_i32_2707 : BitVec 32) : Fin 2 → Nat :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v4277 : BitVec 32 := Scalar.addi v132 c0_i32_2707
  let v4278 : BitVec 32 := v4277
  let v4279 : Index := Scalar.indexCast v4278
  let c128_2708 : Index := 128#32
  ![v4279.toNat, 128]
def k0_mult11 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c8_i32_2709 : BitVec 32 := 8#32
  let v4283 : BitVec 32 := Scalar.addi v132 c8_i32_2709
  v4283
def k0_mult12 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c16_i32_2711 : BitVec 32 := 16#32
  let v4289 : BitVec 32 := Scalar.addi v132 c16_i32_2711
  v4289
def k0_mult13 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c24_i32_2713 : BitVec 32 := 24#32
  let v4295 : BitVec 32 := Scalar.addi v132 c24_i32_2713
  v4295
def k0_mult14 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c32_i32_2715 : BitVec 32 := 32#32
  let v4301 : BitVec 32 := Scalar.addi v132 c32_i32_2715
  v4301
def k0_mult15 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c40_i32_2717 : BitVec 32 := 40#32
  let v4307 : BitVec 32 := Scalar.addi v132 c40_i32_2717
  v4307
def k0_mult16 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c48_i32_2719 : BitVec 32 := 48#32
  let v4313 : BitVec 32 := Scalar.addi v132 c48_i32_2719
  v4313
def k0_mult17 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c56_i32_2721 : BitVec 32 := 56#32
  let v4319 : BitVec 32 := Scalar.addi v132 c56_i32_2721
  v4319
def k0_off5 (k0_t1 : Fin k0_t1_loop.trips) (c0_i32_2728 : BitVec 32) (c0_i32_2730 : BitVec 32) : Fin 3 → Nat :=
  let c2_2731 : Index := 2#32
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v4329 : BitVec 32 := Scalar.addi v132 c0_i32_2728
  let c2_i32_2729 : BitVec 32 := 2#32
  let v4330 : BitVec 32 := Scalar.addi v4329 c2_i32_2729
  let v4331 : BitVec 32 := Scalar.addi v4330 c0_i32_2730
  let v4332 : Index := Scalar.indexCast v4331
  let c0_2732 : Index := 0#32
  ![2, v4332.toNat, 0]
def k0_mult18 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c0_i32_4058 : BitVec 32 := 0#32
  let v6373 : BitVec 32 := Scalar.addi v132 c0_i32_4058
  v6373
def k0_off6 (k0_t1 : Fin k0_t1_loop.trips) (c0_i32_4058 : BitVec 32) : Fin 2 → Nat :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v6373 : BitVec 32 := Scalar.addi v132 c0_i32_4058
  let v6374 : BitVec 32 := v6373
  let v6375 : Index := Scalar.indexCast v6374
  let c256_4059 : Index := 256#32
  ![v6375.toNat, 256]
def k0_mult19 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c8_i32_4060 : BitVec 32 := 8#32
  let v6379 : BitVec 32 := Scalar.addi v132 c8_i32_4060
  v6379
def k0_mult20 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c16_i32_4062 : BitVec 32 := 16#32
  let v6385 : BitVec 32 := Scalar.addi v132 c16_i32_4062
  v6385
def k0_mult21 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c24_i32_4064 : BitVec 32 := 24#32
  let v6391 : BitVec 32 := Scalar.addi v132 c24_i32_4064
  v6391
def k0_mult22 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c32_i32_4066 : BitVec 32 := 32#32
  let v6397 : BitVec 32 := Scalar.addi v132 c32_i32_4066
  v6397
def k0_mult23 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c40_i32_4068 : BitVec 32 := 40#32
  let v6403 : BitVec 32 := Scalar.addi v132 c40_i32_4068
  v6403
def k0_mult24 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c48_i32_4070 : BitVec 32 := 48#32
  let v6409 : BitVec 32 := Scalar.addi v132 c48_i32_4070
  v6409
def k0_mult25 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c56_i32_4072 : BitVec 32 := 56#32
  let v6415 : BitVec 32 := Scalar.addi v132 c56_i32_4072
  v6415
def k0_off7 (k0_t1 : Fin k0_t1_loop.trips) (c0_i32_4079 : BitVec 32) (c0_i32_4081 : BitVec 32) : Fin 3 → Nat :=
  let c3_4082 : Index := 3#32
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v6425 : BitVec 32 := Scalar.addi v132 c0_i32_4079
  let c2_i32_4080 : BitVec 32 := 2#32
  let v6426 : BitVec 32 := Scalar.addi v6425 c2_i32_4080
  let v6427 : BitVec 32 := Scalar.addi v6426 c0_i32_4081
  let v6428 : Index := Scalar.indexCast v6427
  let c0_4083 : Index := 0#32
  ![3, v6428.toNat, 0]
def k0_mult26 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c0_i32_5409 : BitVec 32 := 0#32
  let v8469 : BitVec 32 := Scalar.addi v132 c0_i32_5409
  v8469
def k0_off8 (k0_t1 : Fin k0_t1_loop.trips) (c0_i32_5409 : BitVec 32) : Fin 2 → Nat :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v8469 : BitVec 32 := Scalar.addi v132 c0_i32_5409
  let v8470 : BitVec 32 := v8469
  let v8471 : Index := Scalar.indexCast v8470
  let c384_5410 : Index := 384#32
  ![v8471.toNat, 384]
def k0_mult27 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c8_i32_5411 : BitVec 32 := 8#32
  let v8475 : BitVec 32 := Scalar.addi v132 c8_i32_5411
  v8475
def k0_mult28 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c16_i32_5413 : BitVec 32 := 16#32
  let v8481 : BitVec 32 := Scalar.addi v132 c16_i32_5413
  v8481
def k0_mult29 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c24_i32_5415 : BitVec 32 := 24#32
  let v8487 : BitVec 32 := Scalar.addi v132 c24_i32_5415
  v8487
def k0_mult30 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c32_i32_5417 : BitVec 32 := 32#32
  let v8493 : BitVec 32 := Scalar.addi v132 c32_i32_5417
  v8493
def k0_mult31 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c40_i32_5419 : BitVec 32 := 40#32
  let v8499 : BitVec 32 := Scalar.addi v132 c40_i32_5419
  v8499
def k0_mult32 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c48_i32_5421 : BitVec 32 := 48#32
  let v8505 : BitVec 32 := Scalar.addi v132 c48_i32_5421
  v8505
def k0_mult33 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c56_i32_5423 : BitVec 32 := 56#32
  let v8511 : BitVec 32 := Scalar.addi v132 c56_i32_5423
  v8511
def k0_off9 (k0_t1 : Fin k0_t1_loop.trips) (c0_i32_5430 : BitVec 32) (c0_i32_5432 : BitVec 32) : Fin 3 → Nat :=
  let c4_5433 : Index := 4#32
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v8521 : BitVec 32 := Scalar.addi v132 c0_i32_5430
  let c2_i32_5431 : BitVec 32 := 2#32
  let v8522 : BitVec 32 := Scalar.addi v8521 c2_i32_5431
  let v8523 : BitVec 32 := Scalar.addi v8522 c0_i32_5432
  let v8524 : Index := Scalar.indexCast v8523
  let c0_5434 : Index := 0#32
  ![4, v8524.toNat, 0]
def k0_mult34 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c0_i32_6760 : BitVec 32 := 0#32
  let v10565 : BitVec 32 := Scalar.addi v132 c0_i32_6760
  v10565
def k0_off10 (k0_t1 : Fin k0_t1_loop.trips) (c0_i32_6760 : BitVec 32) : Fin 2 → Nat :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v10565 : BitVec 32 := Scalar.addi v132 c0_i32_6760
  let v10566 : BitVec 32 := v10565
  let v10567 : Index := Scalar.indexCast v10566
  let c512_6761 : Index := 512#32
  ![v10567.toNat, 512]
def k0_mult35 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c8_i32_6762 : BitVec 32 := 8#32
  let v10571 : BitVec 32 := Scalar.addi v132 c8_i32_6762
  v10571
def k0_mult36 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c16_i32_6764 : BitVec 32 := 16#32
  let v10577 : BitVec 32 := Scalar.addi v132 c16_i32_6764
  v10577
def k0_mult37 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c24_i32_6766 : BitVec 32 := 24#32
  let v10583 : BitVec 32 := Scalar.addi v132 c24_i32_6766
  v10583
def k0_mult38 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c32_i32_6768 : BitVec 32 := 32#32
  let v10589 : BitVec 32 := Scalar.addi v132 c32_i32_6768
  v10589
def k0_mult39 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c40_i32_6770 : BitVec 32 := 40#32
  let v10595 : BitVec 32 := Scalar.addi v132 c40_i32_6770
  v10595
def k0_mult40 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c48_i32_6772 : BitVec 32 := 48#32
  let v10601 : BitVec 32 := Scalar.addi v132 c48_i32_6772
  v10601
def k0_mult41 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c56_i32_6774 : BitVec 32 := 56#32
  let v10607 : BitVec 32 := Scalar.addi v132 c56_i32_6774
  v10607
def k0_off11 (k0_t1 : Fin k0_t1_loop.trips) (c0_i32_6781 : BitVec 32) (c0_i32_6783 : BitVec 32) : Fin 3 → Nat :=
  let c5_6784 : Index := 5#32
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v10617 : BitVec 32 := Scalar.addi v132 c0_i32_6781
  let c2_i32_6782 : BitVec 32 := 2#32
  let v10618 : BitVec 32 := Scalar.addi v10617 c2_i32_6782
  let v10619 : BitVec 32 := Scalar.addi v10618 c0_i32_6783
  let v10620 : Index := Scalar.indexCast v10619
  let c0_6785 : Index := 0#32
  ![5, v10620.toNat, 0]
def k0_mult42 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c0_i32_8111 : BitVec 32 := 0#32
  let v12661 : BitVec 32 := Scalar.addi v132 c0_i32_8111
  v12661
def k0_off12 (k0_t1 : Fin k0_t1_loop.trips) (c0_i32_8111 : BitVec 32) : Fin 2 → Nat :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v12661 : BitVec 32 := Scalar.addi v132 c0_i32_8111
  let v12662 : BitVec 32 := v12661
  let v12663 : Index := Scalar.indexCast v12662
  let c640_8112 : Index := 640#32
  ![v12663.toNat, 640]
def k0_mult43 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c8_i32_8113 : BitVec 32 := 8#32
  let v12667 : BitVec 32 := Scalar.addi v132 c8_i32_8113
  v12667
def k0_mult44 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c16_i32_8115 : BitVec 32 := 16#32
  let v12673 : BitVec 32 := Scalar.addi v132 c16_i32_8115
  v12673
def k0_mult45 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c24_i32_8117 : BitVec 32 := 24#32
  let v12679 : BitVec 32 := Scalar.addi v132 c24_i32_8117
  v12679
def k0_mult46 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c32_i32_8119 : BitVec 32 := 32#32
  let v12685 : BitVec 32 := Scalar.addi v132 c32_i32_8119
  v12685
def k0_mult47 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c40_i32_8121 : BitVec 32 := 40#32
  let v12691 : BitVec 32 := Scalar.addi v132 c40_i32_8121
  v12691
def k0_mult48 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c48_i32_8123 : BitVec 32 := 48#32
  let v12697 : BitVec 32 := Scalar.addi v132 c48_i32_8123
  v12697
def k0_mult49 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c56_i32_8125 : BitVec 32 := 56#32
  let v12703 : BitVec 32 := Scalar.addi v132 c56_i32_8125
  v12703
def k0_off13 (k0_t1 : Fin k0_t1_loop.trips) (c0_i32_8132 : BitVec 32) (c0_i32_8134 : BitVec 32) : Fin 3 → Nat :=
  let c6_8135 : Index := 6#32
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v12713 : BitVec 32 := Scalar.addi v132 c0_i32_8132
  let c2_i32_8133 : BitVec 32 := 2#32
  let v12714 : BitVec 32 := Scalar.addi v12713 c2_i32_8133
  let v12715 : BitVec 32 := Scalar.addi v12714 c0_i32_8134
  let v12716 : Index := Scalar.indexCast v12715
  let c0_8136 : Index := 0#32
  ![6, v12716.toNat, 0]
def k0_mult50 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c0_i32_9462 : BitVec 32 := 0#32
  let v14757 : BitVec 32 := Scalar.addi v132 c0_i32_9462
  v14757
def k0_off14 (k0_t1 : Fin k0_t1_loop.trips) (c0_i32_9462 : BitVec 32) : Fin 2 → Nat :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v14757 : BitVec 32 := Scalar.addi v132 c0_i32_9462
  let v14758 : BitVec 32 := v14757
  let v14759 : Index := Scalar.indexCast v14758
  let c768_9463 : Index := 768#32
  ![v14759.toNat, 768]
def k0_mult51 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c8_i32_9464 : BitVec 32 := 8#32
  let v14763 : BitVec 32 := Scalar.addi v132 c8_i32_9464
  v14763
def k0_mult52 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c16_i32_9466 : BitVec 32 := 16#32
  let v14769 : BitVec 32 := Scalar.addi v132 c16_i32_9466
  v14769
def k0_mult53 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c24_i32_9468 : BitVec 32 := 24#32
  let v14775 : BitVec 32 := Scalar.addi v132 c24_i32_9468
  v14775
def k0_mult54 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c32_i32_9470 : BitVec 32 := 32#32
  let v14781 : BitVec 32 := Scalar.addi v132 c32_i32_9470
  v14781
def k0_mult55 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c40_i32_9472 : BitVec 32 := 40#32
  let v14787 : BitVec 32 := Scalar.addi v132 c40_i32_9472
  v14787
def k0_mult56 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c48_i32_9474 : BitVec 32 := 48#32
  let v14793 : BitVec 32 := Scalar.addi v132 c48_i32_9474
  v14793
def k0_mult57 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c56_i32_9476 : BitVec 32 := 56#32
  let v14799 : BitVec 32 := Scalar.addi v132 c56_i32_9476
  v14799
def k0_off15 (k0_t1 : Fin k0_t1_loop.trips) (c0_i32_9483 : BitVec 32) (c0_i32_9485 : BitVec 32) : Fin 3 → Nat :=
  let c7_9486 : Index := 7#32
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v14809 : BitVec 32 := Scalar.addi v132 c0_i32_9483
  let c2_i32_9484 : BitVec 32 := 2#32
  let v14810 : BitVec 32 := Scalar.addi v14809 c2_i32_9484
  let v14811 : BitVec 32 := Scalar.addi v14810 c0_i32_9485
  let v14812 : Index := Scalar.indexCast v14811
  let c0_9487 : Index := 0#32
  ![7, v14812.toNat, 0]
def k0_mult58 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c0_i32_10813 : BitVec 32 := 0#32
  let v16853 : BitVec 32 := Scalar.addi v132 c0_i32_10813
  v16853
def k0_off16 (k0_t1 : Fin k0_t1_loop.trips) (c0_i32_10813 : BitVec 32) : Fin 2 → Nat :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let v16853 : BitVec 32 := Scalar.addi v132 c0_i32_10813
  let v16854 : BitVec 32 := v16853
  let v16855 : Index := Scalar.indexCast v16854
  let c896_10814 : Index := 896#32
  ![v16855.toNat, 896]
def k0_mult59 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c8_i32_10815 : BitVec 32 := 8#32
  let v16859 : BitVec 32 := Scalar.addi v132 c8_i32_10815
  v16859
def k0_mult60 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c16_i32_10817 : BitVec 32 := 16#32
  let v16865 : BitVec 32 := Scalar.addi v132 c16_i32_10817
  v16865
def k0_mult61 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c24_i32_10819 : BitVec 32 := 24#32
  let v16871 : BitVec 32 := Scalar.addi v132 c24_i32_10819
  v16871
def k0_mult62 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c32_i32_10821 : BitVec 32 := 32#32
  let v16877 : BitVec 32 := Scalar.addi v132 c32_i32_10821
  v16877
def k0_mult63 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c40_i32_10823 : BitVec 32 := 40#32
  let v16883 : BitVec 32 := Scalar.addi v132 c40_i32_10823
  v16883
def k0_mult64 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c48_i32_10825 : BitVec 32 := 48#32
  let v16889 : BitVec 32 := Scalar.addi v132 c48_i32_10825
  v16889
def k0_mult65 (k0_t1 : Fin k0_t1_loop.trips) : BitVec 32 :=
  let c0_i32_55 : BitVec 32 := 0#32
  let c1_i32 : BitVec 32 := 1#32
  let arg15 : BitVec 32 := Scf.iv c0_i32_55 c1_i32 k0_t1
  let c64_i32 : BitVec 32 := 64#32
  let v131 : BitVec 32 := Scalar.muli arg15 c64_i32
  let v132 : BitVec 32 := v131
  let c56_i32_10827 : BitVec 32 := 56#32
  let v16895 : BitVec 32 := Scalar.addi v132 c56_i32_10827
  v16895
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.muli v1 c16_i32_0
  let c1_i32 : BitVec 32 := 1#32
  let v3 : BitVec 32 := Scalar.subi v2 c1_i32
  let c0_i32 : BitVec 32 := 0#32
  let v4 : BitVec 32 := Scalar.maxsi v3 c0_i32
  let c1_i32_1 : BitVec 32 := 1#32
  let c0_i32_2 : BitVec 32 := 0#32
  ![v4.toNat, c1_i32_1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.muli v1 c16_i32_0
  let c1_i32 : BitVec 32 := 1#32
  let v3 : BitVec 32 := Scalar.subi v2 c1_i32
  let c0_i32 : BitVec 32 := 0#32
  let v4 : BitVec 32 := Scalar.maxsi v3 c0_i32
  let c2_i32 : BitVec 32 := 2#32
  let c0_i32_1 : BitVec 32 := 0#32
  ![v4.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvRefIdeal.lean ====
abbrev S16384x3072 : Shape := ⟨2, ![16384, 3072]⟩
abbrev S31x1024 : Shape := ⟨2, ![31, 1024]⟩
abbrev S1024 : Shape := ⟨1, ![1024]⟩
abbrev S1024x2048 : Shape := ⟨2, ![1024, 2048]⟩
abbrev S16384x2048 : Shape := ⟨2, ![16384, 2048]⟩
abbrev S2x8192x2048 : Shape := ⟨3, ![2, 8192, 2048]⟩
abbrev S2x8192x1024 : Shape := ⟨3, ![2, 8192, 1024]⟩
abbrev S_ : Shape := ⟨0, ![]⟩
abbrev S2x8222x1024 : Shape := ⟨3, ![2, 8222, 1024]⟩
abbrev S1x1024 : Shape := ⟨2, ![1, 1024]⟩
abbrev S1x1x1024 : Shape := ⟨3, ![1, 1, 1024]⟩
abbrev S2x8192 : Shape := ⟨2, ![2, 8192]⟩
abbrev S2x8192x1 : Shape := ⟨3, ![2, 8192, 1]⟩

abbrev nBuf : Space → Nat
  | .hbm => 284
  | .vmem => 0
  | .smem => 0
  | _ => 0

abbrev hbmTy0_0 (i : Nat) : BufTy := match i % 128 with
  | 0 => ⟨S16384x3072, .f32⟩
  | 1 => ⟨S31x1024, .f32⟩
  | 2 => ⟨S1024, .f32⟩
  | 3 => ⟨S1024, .f32⟩
  | 4 => ⟨S1024, .f32⟩
  | 5 => ⟨S1024x2048, .f32⟩
  | 6 => ⟨S16384x2048, .f32⟩
  | 7 => ⟨S2x8192x2048, .f32⟩
  | 8 => ⟨S2x8192x1024, .f32⟩
  | 9 => ⟨S2x8192x1024, .f32⟩
  | 10 => ⟨S2x8192x1024, .f32⟩
  | 11 => ⟨S2x8192x1024, .f32⟩
  | 12 => ⟨S_, .f32⟩
  | 13 => ⟨S2x8192x1024, .f32⟩
  | 14 => ⟨S2x8192x1024, .f32⟩
  | 15 => ⟨S_, .f32⟩
  | 16 => ⟨S2x8192x1024, .f32⟩
  | 17 => ⟨S2x8192x1024, .f32⟩
  | 18 => ⟨S2x8192x1024, .f32⟩
  | 19 => ⟨S_, .i32⟩
  | 20 => ⟨S_, .f32⟩
  | 21 => ⟨S2x8222x1024, .f32⟩
  | 22 => ⟨S2x8192x1024, .f32⟩
  | 23 => ⟨S1x1024, .f32⟩
  | 24 => ⟨S1024, .f32⟩
  | 25 => ⟨S1x1x1024, .f32⟩
  | 26 => ⟨S2x8192x1024, .f32⟩
  | 27 => ⟨S2x8192x1024, .f32⟩
  | 28 => ⟨S_, .f32⟩
  | 29 => ⟨S2x8192x1024, .f32⟩
  | 30 => ⟨S2x8192x1024, .f32⟩
  | 31 => ⟨S2x8192x1024, .f32⟩
  | 32 => ⟨S1x1024, .f32⟩
  | 33 => ⟨S1024, .f32⟩
  | 34 => ⟨S1x1x1024, .f32⟩
  | 35 => ⟨S2x8192x1024, .f32⟩
  | 36 => ⟨S2x8192x1024, .f32⟩
  | 37 => ⟨S2x8192x1024, .f32⟩
  | 38 => ⟨S2x8192x1024, .f32⟩
  | 39 => ⟨S1x1024, .f32⟩
  | 40 => ⟨S1024, .f32⟩
  | 41 => ⟨S1x1x1024, .f32⟩
  | 42 => ⟨S2x8192x1024, .f32⟩
  | 43 => ⟨S2x8192x1024, .f32⟩
  | 44 => ⟨S2x8192x1024, .f32⟩
  | 45 => ⟨S2x8192x1024, .f32⟩
  | 46 => ⟨S1x1024, .f32⟩
  | 47 => ⟨S1024, .f32⟩
  | 48 => ⟨S1x1x1024, .f32⟩
  | 49 => ⟨S2x8192x1024, .f32⟩
  | 50 => ⟨S2x8192x1024, .f32⟩
  | 51 => ⟨S2x8192x1024, .f32⟩
  | 52 => ⟨S2x8192x1024, .f32⟩
  | 53 => ⟨S1x1024, .f32⟩
  | 54 => ⟨S1024, .f32⟩
  | 55 => ⟨S1x1x1024, .f32⟩
  | 56 => ⟨S2x8192x1024, .f32⟩
  | 57 => ⟨S2x8192x1024, .f32⟩
  | 58 => ⟨S2x8192x1024, .f32⟩
  | 59 => ⟨S2x8192x1024, .f32⟩
  | 60 => ⟨S1x1024, .f32⟩
  | 61 => ⟨S1024, .f32⟩
  | 62 => ⟨S1x1x1024, .f32⟩
  | 63 => ⟨S2x8192x1024, .f32⟩
  | 64 => ⟨S2x8192x1024, .f32⟩
  | 65 => ⟨S2x8192x1024, .f32⟩
  | 66 => ⟨S2x8192x1024, .f32⟩
  | 67 => ⟨S1x1024, .f32⟩
  | 68 => ⟨S1024, .f32⟩
  | 69 => ⟨S1x1x1024, .f32⟩
  | 70 => ⟨S2x8192x1024, .f32⟩
  | 71 => ⟨S2x8192x1024, .f32⟩
  | 72 => ⟨S2x8192x1024, .f32⟩
  | 73 => ⟨S2x8192x1024, .f32⟩
  | 74 => ⟨S1x1024, .f32⟩
  | 75 => ⟨S1024, .f32⟩
  | 76 => ⟨S1x1x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S1x1024, .f32⟩
  | 82 => ⟨S1024, .f32⟩
  | 83 => ⟨S1x1x1024, .f32⟩
  | 84 => ⟨S2x8192x1024, .f32⟩
  | 85 => ⟨S2x8192x1024, .f32⟩
  | 86 => ⟨S2x8192x1024, .f32⟩
  | 87 => ⟨S2x8192x1024, .f32⟩
  | 88 => ⟨S1x1024, .f32⟩
  | 89 => ⟨S1024, .f32⟩
  | 90 => ⟨S1x1x1024, .f32⟩
  | 91 => ⟨S2x8192x1024, .f32⟩
  | 92 => ⟨S2x8192x1024, .f32⟩
  | 93 => ⟨S2x8192x1024, .f32⟩
  | 94 => ⟨S2x8192x1024, .f32⟩
  | 95 => ⟨S1x1024, .f32⟩
  | 96 => ⟨S1024, .f32⟩
  | 97 => ⟨S1x1x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S1x1024, .f32⟩
  | 103 => ⟨S1024, .f32⟩
  | 104 => ⟨S1x1x1024, .f32⟩
  | 105 => ⟨S2x8192x1024, .f32⟩
  | 106 => ⟨S2x8192x1024, .f32⟩
  | 107 => ⟨S2x8192x1024, .f32⟩
  | 108 => ⟨S2x8192x1024, .f32⟩
  | 109 => ⟨S1x1024, .f32⟩
  | 110 => ⟨S1024, .f32⟩
  | 111 => ⟨S1x1x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S1x1024, .f32⟩
  | 117 => ⟨S1024, .f32⟩
  | 118 => ⟨S1x1x1024, .f32⟩
  | 119 => ⟨S2x8192x1024, .f32⟩
  | 120 => ⟨S2x8192x1024, .f32⟩
  | 121 => ⟨S2x8192x1024, .f32⟩
  | 122 => ⟨S2x8192x1024, .f32⟩
  | 123 => ⟨S1x1024, .f32⟩
  | 124 => ⟨S1024, .f32⟩
  | 125 => ⟨S1x1x1024, .f32⟩
  | 126 => ⟨S2x8192x1024, .f32⟩
  | 127 => ⟨S2x8192x1024, .f32⟩
  | _ => ⟨S16384x3072, .f32⟩

abbrev hbmTy0_1 (i : Nat) : BufTy := match i % 128 with
  | 0 => ⟨S2x8192x1024, .f32⟩
  | 1 => ⟨S2x8192x1024, .f32⟩
  | 2 => ⟨S1x1024, .f32⟩
  | 3 => ⟨S1024, .f32⟩
  | 4 => ⟨S1x1x1024, .f32⟩
  | 5 => ⟨S2x8192x1024, .f32⟩
  | 6 => ⟨S2x8192x1024, .f32⟩
  | 7 => ⟨S2x8192x1024, .f32⟩
  | 8 => ⟨S2x8192x1024, .f32⟩
  | 9 => ⟨S1x1024, .f32⟩
  | 10 => ⟨S1024, .f32⟩
  | 11 => ⟨S1x1x1024, .f32⟩
  | 12 => ⟨S2x8192x1024, .f32⟩
  | 13 => ⟨S2x8192x1024, .f32⟩
  | 14 => ⟨S2x8192x1024, .f32⟩
  | 15 => ⟨S2x8192x1024, .f32⟩
  | 16 => ⟨S1x1024, .f32⟩
  | 17 => ⟨S1024, .f32⟩
  | 18 => ⟨S1x1x1024, .f32⟩
  | 19 => ⟨S2x8192x1024, .f32⟩
  | 20 => ⟨S2x8192x1024, .f32⟩
  | 21 => ⟨S2x8192x1024, .f32⟩
  | 22 => ⟨S2x8192x1024, .f32⟩
  | 23 => ⟨S1x1024, .f32⟩
  | 24 => ⟨S1024, .f32⟩
  | 25 => ⟨S1x1x1024, .f32⟩
  | 26 => ⟨S2x8192x1024, .f32⟩
  | 27 => ⟨S2x8192x1024, .f32⟩
  | 28 => ⟨S2x8192x1024, .f32⟩
  | 29 => ⟨S2x8192x1024, .f32⟩
  | 30 => ⟨S1x1024, .f32⟩
  | 31 => ⟨S1024, .f32⟩
  | 32 => ⟨S1x1x1024, .f32⟩
  | 33 => ⟨S2x8192x1024, .f32⟩
  | 34 => ⟨S2x8192x1024, .f32⟩
  | 35 => ⟨S2x8192x1024, .f32⟩
  | 36 => ⟨S2x8192x1024, .f32⟩
  | 37 => ⟨S1x1024, .f32⟩
  | 38 => ⟨S1024, .f32⟩
  | 39 => ⟨S1x1x1024, .f32⟩
  | 40 => ⟨S2x8192x1024, .f32⟩
  | 41 => ⟨S2x8192x1024, .f32⟩
  | 42 => ⟨S2x8192x1024, .f32⟩
  | 43 => ⟨S2x8192x1024, .f32⟩
  | 44 => ⟨S1x1024, .f32⟩
  | 45 => ⟨S1024, .f32⟩
  | 46 => ⟨S1x1x1024, .f32⟩
  | 47 => ⟨S2x8192x1024, .f32⟩
  | 48 => ⟨S2x8192x1024, .f32⟩
  | 49 => ⟨S2x8192x1024, .f32⟩
  | 50 => ⟨S2x8192x1024, .f32⟩
  | 51 => ⟨S1x1024, .f32⟩
  | 52 => ⟨S1024, .f32⟩
  | 53 => ⟨S1x1x1024, .f32⟩
  | 54 => ⟨S2x8192x1024, .f32⟩
  | 55 => ⟨S2x8192x1024, .f32⟩
  | 56 => ⟨S2x8192x1024, .f32⟩
  | 57 => ⟨S2x8192x1024, .f32⟩
  | 58 => ⟨S1x1024, .f32⟩
  | 59 => ⟨S1024, .f32⟩
  | 60 => ⟨S1x1x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S1x1024, .f32⟩
  | 66 => ⟨S1024, .f32⟩
  | 67 => ⟨S1x1x1024, .f32⟩
  | 68 => ⟨S2x8192x1024, .f32⟩
  | 69 => ⟨S2x8192x1024, .f32⟩
  | 70 => ⟨S2x8192x1024, .f32⟩
  | 71 => ⟨S2x8192x1024, .f32⟩
  | 72 => ⟨S1x1024, .f32⟩
  | 73 => ⟨S1024, .f32⟩
  | 74 => ⟨S1x1x1024, .f32⟩
  | 75 => ⟨S2x8192x1024, .f32⟩
  | 76 => ⟨S2x8192x1024, .f32⟩
  | 77 => ⟨S2x8192x1024, .f32⟩
  | 78 => ⟨S2x8192x1024, .f32⟩
  | 79 => ⟨S1x1024, .f32⟩
  | 80 => ⟨S1024, .f32⟩
  | 81 => ⟨S1x1x1024, .f32⟩
  | 82 => ⟨S2x8192x1024, .f32⟩
  | 83 => ⟨S2x8192x1024, .f32⟩
  | 84 => ⟨S2x8192x1024, .f32⟩
  | 85 => ⟨S2x8192x1024, .f32⟩
  | 86 => ⟨S1x1024, .f32⟩
  | 87 => ⟨S1024, .f32⟩
  | 88 => ⟨S1x1x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S1x1024, .f32⟩
  | 94 => ⟨S1024, .f32⟩
  | 95 => ⟨S1x1x1024, .f32⟩
  | 96 => ⟨S2x8192x1024, .f32⟩
  | 97 => ⟨S2x8192x1024, .f32⟩
  | 98 => ⟨S2x8192x1024, .f32⟩
  | 99 => ⟨S2x8192x1024, .f32⟩
  | 100 => ⟨S1x1024, .f32⟩
  | 101 => ⟨S1024, .f32⟩
  | 102 => ⟨S1x1x1024, .f32⟩
  | 103 => ⟨S2x8192x1024, .f32⟩
  | 104 => ⟨S2x8192x1024, .f32⟩
  | 105 => ⟨S2x8192x1024, .f32⟩
  | 106 => ⟨S2x8192x1024, .f32⟩
  | 107 => ⟨S1x1024, .f32⟩
  | 108 => ⟨S1024, .f32⟩
  | 109 => ⟨S1x1x1024, .f32⟩
  | 110 => ⟨S2x8192x1024, .f32⟩
  | 111 => ⟨S2x8192x1024, .f32⟩
  | 112 => ⟨S2x8192x1024, .f32⟩
  | 113 => ⟨S1x1x1024, .f32⟩
  | 114 => ⟨S2x8192x1024, .f32⟩
  | 115 => ⟨S2x8192x1024, .f32⟩
  | 116 => ⟨S_, .f32⟩
  | 117 => ⟨S2x8192, .f32⟩
  | 118 => ⟨S2x8192x1, .f32⟩
  | 119 => ⟨S_, .f32⟩
  | 120 => ⟨S2x8192x1, .f32⟩
  | 121 => ⟨S2x8192x1, .f32⟩
  | 122 => ⟨S2x8192x1024, .f32⟩
  | 123 => ⟨S2x8192x1024, .f32⟩
  | 124 => ⟨S2x8192x1024, .f32⟩
  | 125 => ⟨S_, .f32⟩
  | 126 => ⟨S2x8192, .f32⟩
  | 127 => ⟨S2x8192x1, .f32⟩
  | _ => ⟨S16384x3072, .f32⟩

abbrev hbmTy0_2 (i : Nat) : BufTy := match i % 128 with
  | 0 => ⟨S_, .f32⟩
  | 1 => ⟨S2x8192x1, .f32⟩
  | 2 => ⟨S2x8192x1, .f32⟩
  | 3 => ⟨S2x8192x1024, .f32⟩
  | 4 => ⟨S2x8192x1024, .f32⟩
  | 5 => ⟨S_, .f32⟩
  | 6 => ⟨S2x8192x1, .f32⟩
  | 7 => ⟨S2x8192x1, .f32⟩
  | 8 => ⟨S2x8192x1, .f32⟩
  | 9 => ⟨S2x8192x1024, .f32⟩
  | 10 => ⟨S2x8192x1024, .f32⟩
  | 11 => ⟨S1x1x1024, .f32⟩
  | 12 => ⟨S2x8192x1024, .f32⟩
  | 13 => ⟨S2x8192x1024, .f32⟩
  | 14 => ⟨S1x1x1024, .f32⟩
  | 15 => ⟨S2x8192x1024, .f32⟩
  | 16 => ⟨S2x8192x1024, .f32⟩
  | 17 => ⟨S2x8192x1024, .f32⟩
  | 18 => ⟨S2x8192x1024, .f32⟩
  | 19 => ⟨S_, .f32⟩
  | 20 => ⟨S2x8192x1024, .f32⟩
  | 21 => ⟨S2x8192x1024, .f32⟩
  | 22 => ⟨S_, .f32⟩
  | 23 => ⟨S2x8192x1024, .f32⟩
  | 24 => ⟨S2x8192x1024, .f32⟩
  | 25 => ⟨S2x8192x1024, .f32⟩
  | 26 => ⟨S2x8192x2048, .f32⟩
  | 27 => ⟨S16384x2048, .f32⟩
  | _ => ⟨S16384x3072, .f32⟩

abbrev hbmTy (i : Nat) : BufTy := match i / 128 with
  | 0 => hbmTy0_0 i
  | 1 => hbmTy0_1 i
  | 2 => hbmTy0_2 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_cst_2 : Ref sig .tc := ⟨.hbm, 244, rfl⟩
abbrev main_v233 : Ref sig .tc := ⟨.hbm, 245, rfl⟩
abbrev main_v234 : Ref sig .tc := ⟨.hbm, 246, rfl⟩
abbrev main_cst_3 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_cst_4 : Ref sig .tc := ⟨.hbm, 253, rfl⟩
abbrev main_v240 : Ref sig .tc := ⟨.hbm, 254, rfl⟩
abbrev main_v241 : Ref sig .tc := ⟨.hbm, 255, rfl⟩
abbrev main_cst_5 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_cst_6 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_call1_v0 : Ref sig .tc := ⟨.hbm, 273, rfl⟩
abbrev main_call1_v1 : Ref sig .tc := ⟨.hbm, 274, rfl⟩
abbrev main_call1_cst : Ref sig .tc := ⟨.hbm, 275, rfl⟩
abbrev main_call1_v2 : Ref sig .tc := ⟨.hbm, 276, rfl⟩
abbrev main_call1_v3 : Ref sig .tc := ⟨.hbm, 277, rfl⟩
abbrev main_call1_cst_0 : Ref sig .tc := ⟨.hbm, 278, rfl⟩
abbrev main_call1_v4 : Ref sig .tc := ⟨.hbm, 279, rfl⟩
abbrev main_call1_v5 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩

abbrev nD : Nat := 1
abbrev τ : Topo := Topo.v7x

variable {F : FTy → Type} [FloatOps F]
-- ==== Disc.lean ====
abbrev S64x64 : Shape := ⟨2, ![64, 64]⟩
abbrev S64 : Shape := ⟨1, ![64]⟩
abbrev S64x64x16 : Shape := ⟨3, ![64, 64, 16]⟩
abbrev S16x64x64 : Shape := ⟨3, ![16, 64, 64]⟩
abbrev S64x1 : Shape := ⟨2, ![64, 1]⟩
abbrev S1x64x64 : Shape := ⟨3, ![1, 64, 64]⟩

abbrev nBuf : Space → Nat
  | .hbm => 12
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S16x64x64, .f32⟩
  | .hbm, ⟨6, _⟩ => ⟨S16x64x64, .f32⟩
  | .hbm, ⟨7, _⟩ => ⟨S64x1, .f32⟩
  | .hbm, ⟨8, _⟩ => ⟨S64x64, .f32⟩
  | .hbm, ⟨9, _⟩ => ⟨S64x64, .f32⟩
  | .hbm, ⟨10, _⟩ => ⟨S16x64x64, .f32⟩
  | .hbm, ⟨11, _⟩ => ⟨S16x64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S16x64x64, .f32⟩
  | .local _ .vmem, ⟨4, _⟩ => ⟨S16x64x64, .f32⟩
  | .local _ .vmem, ⟨5, _⟩ => ⟨S64x64, .f32⟩
  | .local _ .vmem, ⟨6, _⟩ => ⟨S64x64, .f32⟩
  | .local _ .vmem, ⟨7, _⟩ => ⟨S16x64x64, .f32⟩
  | .local _ .vmem, ⟨8, _⟩ => ⟨S16x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DiscRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S16x64x64 : Shape := ⟨3, ![16, 64, 64]⟩

abbrev nBuf : Space → Nat
  | .hbm => 44
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64x1, .f32⟩
  | .hbm, ⟨31, _⟩ => ⟨S64x64x1, .f32⟩
  | .hbm, ⟨32, _⟩ => ⟨S64x64x16, .f32⟩
  | .hbm, ⟨33, _⟩ => ⟨S64x64x16, .f32⟩
  | .hbm, ⟨34, _⟩ => ⟨S64x64x16, .f32⟩
  | .hbm, ⟨35, _⟩ => ⟨S64x64x16, .f32⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S16x64x64, .f32⟩
  | .hbm, ⟨43, _⟩ => ⟨S16x64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Proof.Value.Math.lean ====
/-
The attention layer over extended reals, by coordinates: the norm of one row, a head's scores, their softmax and the
head's contribution to one output column. Neither program's layout appears here. -/
module

public import Idealize.ShloMosaic.Lib.Pointwise
public import Idealize.ShloMosaic.Lib.IdealHost

@[expose] public section
set_option maxRecDepth 16384

noncomputable section
namespace Cert.Attn
open Idealize.ShloMosaic

/-- The scale of a score: the inverse of the root of the head size. -/
def scale : EReal := ((Real.sqrt 512)⁻¹ : ℝ)

/-- Column `c` of the root-mean-square norm of a row `x` with gain `g`. -/
def norm (x g : Fin 2048 → EReal) (c : Fin 2048) : EReal :=
  x c * Ideal.rsqrt (Ideal.div (∑ k, x k * x k) (Ideal.ofBits .f32 0x45000000#32) + Ideal.ofBits .f32 0x358637BD#32) * g c

/-- A head's query of a normed row `n`. -/
def query (n : Fin 2048 → EReal) (wq : Fin 2048 → Fin 512 → EReal) (d : Fin 512) : EReal := ∑ c, n c * wq c d

/-- The scaled score of a query `q` against key `j`. -/
def score (q : Fin 512 → EReal) (key : Fin 256 → Fin 512 → EReal) (j : Fin 256) : EReal :=
  (∑ d, q d * key j d) * scale

/-- The exponential of a score less the row's greatest. -/
def shifted (s : Fin 256 → EReal) (j : Fin 256) : EReal :=
  Ideal.exp (s j - Finset.univ.fold max (Ideal.ofBits .f32 0xFF800000#32) s)

/-- The softmax weight. -/
def weight (s : Fin 256 → EReal) (j : Fin 256) : EReal := Ideal.div (shifted s j) (∑ k, shifted s k)

/-- The head's output: the weighted values. -/
def mixed (s : Fin 256 → EReal) (val : Fin 256 → Fin 512 → EReal) (d : Fin 512) : EReal := ∑ j, weight s j * val j d

/-- A head's contribution to one output column: the weighted values through the column `wo` of the output weights. -/
def head (s : Fin 256 → EReal) (val : Fin 256 → Fin 512 → EReal) (wo : Fin 512 → EReal) : EReal :=
  ∑ d, mixed s val d * wo d

/-- Column `512 h + d` of a row of 2048, column `2048 + 512 h + d` of one of 4096, and column `512 h + d` of that. -/
def at4 (h : Fin 4) (d : Fin 512) : Fin 2048 := ⟨h.val * 512 + d.val, by omega⟩
def keyAt (h : Fin 4) (d : Fin 512) : Fin 4096 := ⟨h.val * 512 + d.val, by omega⟩
def valAt (h : Fin 4) (d : Fin 512) : Fin 4096 := ⟨2048 + (h.val * 512 + d.val), by omega⟩

/-- Head `h`'s contribution to output column `c`, the row `n` normed already. -/
def headOf (n : Fin 2048 → EReal) (wq : Fin 2048 → Fin 2048 → EReal) (kv : Fin 256 → Fin 4096 → EReal)
    (wo : Fin 2048 → Fin 2048 → EReal) (h : Fin 4) (c : Fin 2048) : EReal :=
  head (score (query n fun k d => wq k (at4 h d)) fun j d => kv j (keyAt h d)) (fun j d => kv j (valAt h d)) fun d => wo (at4 h d) c

/-- The layer's output in column `c` of a row `x`: the row and the four heads. -/
def out (x g : Fin 2048 → EReal) (wq : Fin 2048 → Fin 2048 → EReal) (kv : Fin 256 → Fin 4096 → EReal)
    (wo : Fin 2048 → Fin 2048 → EReal) (c : Fin 2048) : EReal :=
  x c + ∑ h, headOf (norm x g) wq kv wo h c

/-- A sum over 2048 columns is the sum over the heads of the sums over each head's 512. -/
theorem sum_heads (f : Fin 2048 → EReal) : ∑ e, f e = ∑ h : Fin 4, ∑ d : Fin 512, f (at4 h d) := by
  rw [← Fintype.sum_prod_type' (fun (h : Fin 4) (d : Fin 512) => f (at4 h d))]
  refine Fintype.sum_equiv (finProdFinEquiv (m := 4) (n := 512)).symm _ _ fun e => congrArg f (Fin.ext ?_)
  simp only [at4, finProdFinEquiv_symm_apply, Fin.divNat, Fin.modNat]
  omega

/-- Dividing by the root is scaling by its inverse. -/
theorem div_root (a : EReal) : Ideal.div a (Ideal.sqrt (Ideal.ofBits .f32 0x44000000#32)) = a * scale := by
  have h : Ideal.ofBits .f32 0x44000000#32 = ((512 : ℝ) : EReal) := by
    simp [Ideal.ofBits, Ideal.ieee]
    rw [← EReal.coe_mul]; norm_num
  rw [h, Ideal.sqrt_coe, if_neg (by norm_num), Ideal.div_coe (by positivity), one_div]
  rfl

/-- The greatest of a list that starts at the least number is not changed by that number. -/
theorem bot_max (a : EReal) : max (Ideal.ofBits .f32 0xFF800000#32) a = a := by
  have h : Ideal.ofBits .f32 0xFF800000#32 = ⊥ := by simp [Ideal.ofBits, Ideal.ieee]
  rw [h]; exact bot_sup_eq a

end Cert.Attn
end
-- ==== Proof.Combine.Math.lean ====
/-
The gate of two branches over extended reals: the logistic function as the kernel spells it, and
the gated sum through the output weights.
-/
module

public import proofs.«01_k».proof.Proof.Value.Math

@[expose] public section
set_option maxRecDepth 16384

noncomputable section
namespace Cert.Attn
open Idealize.ShloMosaic

/-- A gate: the logistic of a normed row through one column of the input weights. -/
def gate (n w : Fin 2048 → EReal) : EReal := Ideal.logistic (∑ k, n k * w k)

/-- The columns of the two gates in the input weights, and column `1024 p + d` of a row of 2048. -/
def gateA (e : Fin 2048) : Fin 7168 := ⟨3072 + e.val, by omega⟩
def gateB (e : Fin 2048) : Fin 7168 := ⟨5120 + e.val, by omega⟩
def half (p : Fin 2) (d : Fin 1024) : Fin 2048 := ⟨p.val * 1024 + d.val, by omega⟩

/-- The gated sum of the branches in column `e`. -/
def gated (n : Fin 2048 → EReal) (w : Fin 2048 → Fin 7168 → EReal) (a b : Fin 2048 → EReal) (e : Fin 2048) : EReal :=
  gate n (fun k => w k (gateA e)) * a e + gate n (fun k => w k (gateB e)) * b e

/-- The combined row in column `c`. -/
def combined (x g : Fin 2048 → EReal) (w : Fin 2048 → Fin 7168 → EReal) (a b : Fin 2048 → EReal)
    (wo : Fin 2048 → Fin 2048 → EReal) (c : Fin 2048) : EReal :=
  x c + ∑ e, gated (norm x g) w a b e * wo e c

/-- A sum over 2048 columns is the sum of the two halves' sums. -/
theorem sum_halves (f : Fin 2048 → EReal) : ∑ e, f e = (∑ d, f (half 0 d)) + ∑ d, f (half 1 d) := by
  have h : ∑ e, f e = ∑ p : Fin 2, ∑ d : Fin 1024, f (half p d) := by
    rw [← Fintype.sum_prod_type' (fun (p : Fin 2) (d : Fin 1024) => f (half p d))]
    refine Fintype.sum_equiv (finProdFinEquiv (m := 2) (n := 1024)).symm _ _ fun e => congrArg f (Fin.ext ?_)
    simp only [half, finProdFinEquiv_symm_apply, Fin.divNat, Fin.modNat]
    omega
  rw [h, Fin.sum_univ_two]

theorem bits_half : Ideal.ofBits .f32 0x3F000000#32 = (((1 : ℝ) / 2 : ℝ) : EReal) := by
  simp [Ideal.ofBits, Ideal.ieee]
  rw [← EReal.coe_mul]; norm_num

/-- The logistic by the hyperbolic tangent of the half. -/
theorem half_tanh (x : EReal) :
    Ideal.ofBits .f32 0x3F000000#32 * Ideal.tanh (Ideal.ofBits .f32 0x3F000000#32 * x) + Ideal.ofBits .f32 0x3F000000#32 = Ideal.logistic x := by
  rw [bits_half]
  have pos : (0 : ℝ) < 1 / 2 := by norm_num
  induction x with
  | bot =>
    rw [EReal.coe_mul_bot_of_pos pos, Ideal.logistic_bot, Ideal.tanh_bot, ← EReal.coe_one, ← EReal.coe_neg, ← EReal.coe_mul, ← EReal.coe_add, ← EReal.coe_zero]
    norm_num
  | top =>
    rw [EReal.coe_mul_top_of_pos pos, Ideal.logistic_top, Ideal.tanh_top, ← EReal.coe_one, ← EReal.coe_mul, ← EReal.coe_add]
    norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have e1 : Real.exp (1 / 2 * r) ≠ 0 := (Real.exp_pos _).ne'
    have e2 : Real.exp (-(1 / 2 * r)) = (Real.exp (1 / 2 * r))⁻¹ := Real.exp_neg _
    have e3 : Real.exp (-r) = (Real.exp (1 / 2 * r))⁻¹ * (Real.exp (1 / 2 * r))⁻¹ := by
      rw [← e2, ← Real.exp_add]; congr 1; ring
    rw [e2, e3]
    have := Real.exp_pos (1 / 2 * r)
    field_simp
    ring

end Cert.Attn
end
-- ==== Proof.Combine.Kernel.lean ====
/-
The block one grid point of the gated combination stores, read at a row and a column: the combined row. -/
module

public import proofs.«01_k».proof.Proof.Gen.CombineIdeal.Value
public import proofs.«01_k».proof.Proof.Combine.Math
public import Idealize.ShloMosaic.Lib.Pipeline.ValueKit

@[expose] public section
set_option maxRecDepth 16384

noncomputable section
namespace Cert.CombineIdeal.Layer
open Cert.CombineIdeal Cert.CombineIdeal.Gen Cert.Attn
open Idealize.ShloMosaic Idealize.ShloMosaic.TcCoe Idealize.ShloMosaic.Tactic

variable (x : FVec Ideal S256x2048 .f32) (g : FVec Ideal S1x2048 .f32) (r : Fin 256)

/-- The normed block. -/
theorem normed_at (c : Fin 2048) : k0_pay3 (F := Ideal) x g (ix2 r c) = norm (fun k => x (ix2 r k)) (fun k => g (ix2 0 k)) c := by
  pointwise [k0_pay3, k0_pay2]; rfl

/-- The first gate on the first half of the columns. -/
theorem gateA0_at (w : FVec Ideal S2048x1024 .bf16) (d : Fin 1024) :
    k0_pay4 (F := Ideal) x g w (ix2 r d) = gate (norm (fun k => x (ix2 r k)) fun k => g (ix2 0 k)) fun k => w (ix2 k d) := by
  pointwise [k0_pay4]; simp only [normed_at]; exact half_tanh _

/-- The second gate there, its last constant not yet added. -/
theorem gateB0_at (w : FVec Ideal S2048x1024 .bf16) (d : Fin 1024) :
    k0_pay5 (F := Ideal) x g w (ix2 r d) + Ideal.ofBits .f32 0x3F000000#32
      = gate (norm (fun k => x (ix2 r k)) fun k => g (ix2 0 k)) fun k => w (ix2 k d) := by
  pointwise [k0_pay5]; simp only [normed_at]; exact half_tanh _

/-- The gates on the second half. -/
theorem gateA1_at (n : FVec Ideal S256x2048 .bf16) (w : FVec Ideal S2048x1024 .bf16) (d : Fin 1024) :
    k0_pay8 (F := Ideal) n w (ix2 r d) = gate (fun k => n (ix2 r k)) fun k => w (ix2 k d) := by
  pointwise [k0_pay8]; exact half_tanh _
theorem gateB1_at (n : FVec Ideal S256x2048 .bf16) (w : FVec Ideal S2048x1024 .bf16) (d : Fin 1024) :
    k0_pay9 (F := Ideal) n w (ix2 r d) = gate (fun k => n (ix2 r k)) fun k => w (ix2 k d) := by
  pointwise [k0_pay9]; exact half_tanh _

/-- The first half added to the block. -/
theorem add0_at (p q a b : FVec Ideal S256x1024 .f32) (wo : FVec Ideal S1024x2048 .bf16) (c : Fin 2048) :
    k0_pay7 (F := Ideal) p q k0_pay6 a b x wo (ix2 r c)
      = x (ix2 r c) + ∑ d, (p (ix2 r d) * a (ix2 r d) + (q (ix2 r d) + Ideal.ofBits .f32 0x3F000000#32) * b (ix2 r d)) * wo (ix2 d c) := by
  pointwise [k0_pay7, k0_pay6]

/-- The second half added. -/
theorem add1_at (p q a b : FVec Ideal S256x1024 .f32) (wo : FVec Ideal S1024x2048 .bf16) (c : Fin 2048) :
    k0_pay1 (F := Ideal) p q a b x wo (ix2 r c)
      = x (ix2 r c) + ∑ d, (p (ix2 r d) * a (ix2 r d) + q (ix2 r d) * b (ix2 r d)) * wo (ix2 d c) := by
  pointwise [k0_pay1]

/-- Loads of half of a branch's columns and of half of the output weights' rows. -/
def cols (y : FVec Ideal S256x2048 .f32) (o : Nat) (inb : ∀ a, ![0, o] a + S256x1024.size a ≤ S256x2048.size a) : FVec Ideal S256x1024 .f32 :=
  View.ld (Val := Elt Ideal) (e' := .f32) y (Rect.unit (s := S256x2048) ![0, o] ![256, 1024] inb)
def rows (y : FVec Ideal S2048x2048 .bf16) (o : Nat) (inb : ∀ a, ![o, 0] a + S1024x2048.size a ≤ S2048x2048.size a) : FVec Ideal S1024x2048 .bf16 :=
  View.ld (Val := Elt Ideal) (e' := .bf16) y (Rect.unit (s := S2048x2048) ![o, 0] ![1024, 2048] inb)

theorem cols_at (y : FVec Ideal S256x2048 .f32) (p : Fin 2) (o : Nat) (ho : o = p.val * 1024) (inb) (d : Fin 1024) :
    cols y o inb (ix2 r d) = y (ix2 r (half p d)) := by
  subst ho; unfold cols half; pointwise
theorem rows_at (y : FVec Ideal S2048x2048 .bf16) (p : Fin 2) (o : Nat) (ho : o = p.val * 1024) (inb) (d : Fin 1024) (c : Fin 2048) :
    rows y o inb (ix2 d c) = y (ix2 (half p d) c) := by
  subst ho; unfold rows half; pointwise

/-- What the body stores over its nine blocks. -/
def block (x : FVec Ideal S256x2048 .f32) (g : FVec Ideal S1x2048 .f32) (a0 a1 b0 b1 : FVec Ideal S2048x1024 .bf16)
    (ya yb : FVec Ideal S256x2048 .f32) (wo : FVec Ideal S2048x2048 .bf16) : FVec Ideal S256x2048 .f32 :=
  k0_pay1 (k0_pay8 (k0_pay3 x g) a1) (k0_pay9 (k0_pay3 x g) b1) (cols ya 1024 inb_S256x2048_S256x1024_0_1024) (cols yb 1024 inb_S256x2048_S256x1024_0_1024)
    (k0_pay7 (k0_pay4 x g a0) (k0_pay5 x g b0) (k0_pay6 (F := Ideal)) (cols ya 0 inb_S256x2048_S256x1024_0_0) (cols yb 0 inb_S256x2048_S256x1024_0_0)
      (k0_pay2 (F := Ideal) x) (rows wo 0 inb_S2048x2048_S1024x2048_0_0))
    (rows wo 1024 inb_S2048x2048_S1024x2048_1024_0)

theorem stored (m : (ℓ : Loc nD τ sig) → Buf (Elt Ideal) ℓ) (c : Dev nD) (t : Fin cfg0.N) :
    outsAt0 m c t = block (iblk m c 0 t) (iblk m c 1 t) (iblk m c 2 t) (iblk m c 3 t) (iblk m c 4 t) (iblk m c 5 t)
      (iblk m c 6 t) (iblk m c 7 t) (iblk m c 8 t) := by
  unfold outsAt0
  frame_out
  rfl

/-- The stored block at row `r`, column `c`, the gates' weights `w` by their four blocks. -/
theorem block_at (a0 a1 b0 b1 : FVec Ideal S2048x1024 .bf16) (ya yb : FVec Ideal S256x2048 .f32) (wo : FVec Ideal S2048x2048 .bf16)
    (w : Fin 2048 → Fin 7168 → EReal)
    (ha0 : ∀ k d, a0 (ix2 k d) = w k (gateA (half 0 d))) (ha1 : ∀ k d, a1 (ix2 k d) = w k (gateA (half 1 d)))
    (hb0 : ∀ k d, b0 (ix2 k d) = w k (gateB (half 0 d))) (hb1 : ∀ k d, b1 (ix2 k d) = w k (gateB (half 1 d)))
    (c : Fin 2048) :
    block x g a0 a1 b0 b1 ya yb wo (ix2 r c)
      = combined (fun k => x (ix2 r k)) (fun k => g (ix2 0 k)) w (fun k => ya (ix2 r k)) (fun k => yb (ix2 r k)) (fun a b => wo (ix2 a b)) c := by
  have whole : k0_pay2 x (ix2 r c) = x (ix2 r c) := by pointwise [k0_pay2]
  unfold block combined
  rw [add1_at, add0_at, whole, sum_halves]
  simp only [gateA0_at, gateB0_at, gateA1_at, gateB1_at, normed_at, cols_at r ya 0 0 rfl, cols_at r ya 1 1024 rfl, cols_at r yb 0 0 rfl, cols_at r yb 1 1024 rfl,
    rows_at wo 0 0 rfl, rows_at wo 1 1024 rfl, ha0, ha1, hb0, hb1, add_assoc]
  rfl

end Cert.CombineIdeal.Layer
end
-- ==== Proof.Value.Reference.lean ====
/-
The reference program's result in stages, each read at an index: the layer's output of every row. -/
module

public import proofs.«01_k».proof.Proof.Gen.ReferenceIdeal.Run
public import proofs.«01_k».proof.Proof.Value.Math

@[expose] public section
set_option maxRecDepth 16384

noncomputable section
namespace Cert.ReferenceIdeal.Attn
open Cert.ReferenceIdeal Cert.ReferenceIdeal.Gen Cert.Attn
open Idealize.ShloMosaic Idealize.ShloMosaic.TcCoe Idealize.ShloMosaic.Tactic

/-- The root-mean-square norm of the input. -/
def normed (x : FVec Ideal S2x8192x2048 .f32) (g : FVec Ideal S2048 .f32) : FVec Ideal S2x8192x2048 .f32 :=
  mulf (mulf x (broadcastInDim S2x8192x2048 ![0, 1, 2] bcast_S2x8192x1_S2x8192x2048_0_1_2
    (Host.rsqrt (addf (Host.divf (broadcastInDim S2x8192x1 ![0, 1] bcast_S2x8192_S2x8192x1_0_1
      (Host.reduceAdd (mulf x x) (constant S_ .f32 0x00000000#32) reducesTo_S2x8192x2048_S2x8192_d2 h_S_))
      (broadcastInDim S2x8192x1 ![] bcast_S_S2x8192x1 (constant S_ .f32 0x45000000#32)))
      (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 g))

/-- Every head's scores. -/
def scores (n : FVec Ideal S2x8192x2048 .f32) (wq : FVec Ideal S2048x2048 .f32) (kv : FVec Ideal S512x4096 .bf16) : FVec Ideal S2x4x8192x256 .f32 :=
  Host.divf (Host.dotGeneral dot_S2x8192x4x512_S2x256x4x512_S2x4x8192x256_3_3_1_1_02_02 none
    (shapeCast _ (Host.dotGeneral dot_S2x8192x2048_S2048x2048_S2x8192x2048_2_0_01_1_n_n none n wq) shapeCasts_S2x8192x2048_S2x8192x4x512)
    (shapeCast _ (extf .f32 (extractStridedSlice S512x2048 ![0, 0] kv slices_S512x4096_S512x2048_0_0) bitsLt_bf16_f32) shapeCasts_S512x2048_S2x256x4x512))
    (broadcastInDim S2x4x8192x256 ![] bcast_S_S2x4x8192x256 (Host.sqrt (constant S_ .f32 0x44000000#32)))

/-- The greatest score of every row. -/
def greatest (s : FVec Ideal S2x4x8192x256 .f32) : FVec Ideal S2x4x8192 .f32 :=
  Host.reduce FloatOps.maximumf s (constant S_ .f32 0xFF800000#32) reducesTo_S2x4x8192x256_S2x4x8192_d3 h_S_

/-- The exponentials of the scores less their row's greatest `t`. -/
def lowered (s : FVec Ideal S2x4x8192x256 .f32) (t : FVec Ideal S2x4x8192 .f32) : FVec Ideal S2x4x8192x256 .f32 :=
  Host.exp (subf s (broadcastInDim S2x4x8192x256 ![0, 1, 2, 3] bcast_S2x4x8192x1_S2x4x8192x256_0_1_2_3
    (broadcastInDim S2x4x8192x1 ![0, 1, 2] bcast_S2x4x8192_S2x4x8192x1_0_1_2
      (maximumf (broadcastInDim S2x4x8192 ![] bcast_S_S2x4x8192 (constant S_ .f32 0xFF800000#32)) t))))

/-- The exponentials divided by their row's sum. -/
def weights (e : FVec Ideal S2x4x8192x256 .f32) : FVec Ideal S2x4x8192x256 .f32 :=
  Host.divf e (broadcastInDim S2x4x8192x256 ![0, 1, 2, 3] bcast_S2x4x8192x1_S2x4x8192x256_0_1_2_3
    (broadcastInDim S2x4x8192x1 ![0, 1, 2] bcast_S2x4x8192_S2x4x8192x1_0_1_2
      (Host.reduceAdd e (constant S_ .f32 0x00000000#32) reducesTo_S2x4x8192x256_S2x4x8192_d3 h_S_)))

/-- The weighted values through the output weights, and the input added. -/
def outputs (x : FVec Ideal S2x8192x2048 .f32) (p : FVec Ideal S2x4x8192x256 .f32) (kv : FVec Ideal S512x4096 .bf16) (wo : FVec Ideal S2048x2048 .f32) : FVec Ideal S16384x2048 .f32 :=
  shapeCast _ (addf x (Host.dotGeneral dot_S2x8192x2048_S2048x2048_S2x8192x2048_2_0_01_1_n_n none
    (shapeCast _ (transpose S2x8192x4x512 [0, 3, 1, 2] (Host.dotGeneral dot_S2x256x4x512_S2x4x8192x256_S2x4x512x8192_1_3_3_2_02_01 none
      (shapeCast _ (extf .f32 (extractStridedSlice S512x2048 ![0, 2048] kv slices_S512x4096_S512x2048_0_2048) bitsLt_bf16_f32) shapeCasts_S512x2048_S2x256x4x512) p)
      transposes_S2x4x512x8192_S2x8192x4x512_0_3_1_2) shapeCasts_S2x8192x4x512_S2x8192x2048) wo)) shapeCasts_S2x8192x2048_S16384x2048

/-- The whole reference. -/
def attention (x : FVec Ideal S2x8192x2048 .f32) (g : FVec Ideal S2048 .f32) (wq : FVec Ideal S2048x2048 .f32)
    (kv : FVec Ideal S512x4096 .bf16) (wo : FVec Ideal S2048x2048 .f32) : FVec Ideal S16384x2048 .f32 :=
  outputs x (weights (lowered (scores (normed x g) wq kv) (greatest (scores (normed x g) wq kv)))) kv wo

theorem staged (m : (ℓ : Loc nD τ sig) → Buf (Elt Ideal) ℓ) (c : Dev nD) :
    Value.res_out0 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- A greatest over the last of four axes, at any extents. -/
theorem host_max_last {a b n k : Nat} (s : FVec Ideal ⟨4, ![a, b, n, k]⟩ .f32) (w : BitVec 32)
    (h' : (⟨4, ![a, b, n, k]⟩ : Shape).ReducesTo [3] ⟨3, ![a, b, n]⟩) (h : (⟨4, ![a, b, n, k]⟩ : Shape).Reduces [3] ⟨3, ![a, b, n]⟩)
    (hu : 0 < (⟨0, ![]⟩ : Shape).numel) (i : Fin a) (j : Fin b) (l : Fin n) :
    Host.reduce FloatOps.maximumf s (constant (F := Ideal) (⟨0, ![]⟩ : Shape) .f32 w) h' hu (ix3 i j l)
      = Finset.univ.fold max (Ideal.ofBits .f32 w) fun q : Fin k => s (ix4 i j l q) := by
  rw [Host.reduce_eq_fold_single FloatOps.maximumf s _ h' h hu]
  refine congrArg (fun f => Finset.fold max (Ideal.ofBits .f32 w) f (Finset.univ : Finset (Fin k))) (funext fun q => congrArg s ?_)
  funext c; apply Fin.ext
  fin_cases c <;> rfl

theorem greatest_at (s) (b : Fin 2) (h : Fin 4) (r : Fin 8192) :
    greatest s (ix3 b h r) = Finset.univ.fold max (Ideal.ofBits .f32 0xFF800000#32) fun q : Fin 256 => s (ix4 b h r q) :=
  host_max_last s 0xFF800000#32 _ (by decide) _ b h r

theorem normed_at (x g) (b : Fin 2) (r : Fin 8192) (c : Fin 2048) :
    normed x g (ix3 b r c) = norm (fun k => x (ix3 b r k)) (fun k => g (ix1 k)) c := by
  pointwise [normed]; rfl

/-- Batch `b`'s key row `j`. -/
def kvRow (b : Fin 2) (j : Fin 256) : Fin 512 := ⟨b.val * 256 + j.val, by omega⟩

theorem scores_at (n w k) (b : Fin 2) (h : Fin 4) (r : Fin 8192) (j : Fin 256) :
    scores n w k (ix4 b h r j)
      = score (query (fun k => n (ix3 b r k)) fun a d => w (ix2 a (at4 h d))) (fun j d => k (ix2 (kvRow b j) (keyAt h d))) j := by
  pointwise [scores]; rw [div_root]; rfl

theorem lowered_at (s t) (b : Fin 2) (h : Fin 4) (r : Fin 8192) (j : Fin 256) :
    lowered s t (ix4 b h r j) = Ideal.exp (s (ix4 b h r j) - t (ix3 b h r)) := by
  pointwise [lowered]; rw [bot_max]

theorem weights_at (e) (b : Fin 2) (h : Fin 4) (r : Fin 8192) (j : Fin 256) :
    weights e (ix4 b h r j) = Ideal.div (e (ix4 b h r j)) (∑ k, e (ix4 b h r k)) := by
  pointwise [weights]

theorem outputs_at (x p kv wo) (r : Fin 16384) (c : Fin 2048) :
    outputs x p kv wo (ix2 r c)
      = x (ix3 ⟨r.val / 8192, by omega⟩ ⟨r.val % 8192, by omega⟩ c)
        + ∑ h, ∑ d, (∑ j, p (ix4 ⟨r.val / 8192, by omega⟩ h ⟨r.val % 8192, by omega⟩ j) * kv (ix2 (kvRow ⟨r.val / 8192, by omega⟩ j) (valAt h d)))
            * wo (ix2 (at4 h d) c) := by
  pointwise [outputs]
  rw [sum_heads]
  refine congrArg _ (Finset.sum_congr rfl fun h _ => Finset.sum_congr rfl fun d _ => congrArg (· * _) (Finset.sum_congr rfl fun j _ => ?_))
  have e : (⟨(at4 h d).val / 512, by have := (at4 h d).isLt; omega⟩ : Fin 4) = h := Fin.ext (by simp only [at4]; omega)
  rw [mul_comm, e]
  rfl

/-- The reference's result at row `r`, column `c`. -/
theorem attention_at (x g wq kv wo) (r : Fin 16384) (c : Fin 2048) :
    attention x g wq kv wo (ix2 r c)
      = out (fun k => x (ix3 ⟨r.val / 8192, by omega⟩ ⟨r.val % 8192, by omega⟩ k)) (fun k => g (ix1 k)) (fun a b => wq (ix2 a b))
          (fun j e => kv (ix2 (kvRow ⟨r.val / 8192, by omega⟩ j) e)) (fun a b => wo (ix2 a b)) c := by
  unfold attention
  rw [outputs_at]
  simp only [weights_at, lowered_at, greatest_at, scores_at, normed_at]
  rfl

end Cert.ReferenceIdeal.Attn
end
-- ==== Proof.Combine.Reference.lean ====
/-
The reference of the gated combination in stages, each read at an index: the combined row of every row. -/
module

public import proofs.«01_k».proof.Proof.Gen.CombineRefIdeal.Run
public import proofs.«01_k».proof.Proof.Combine.Math
public import proofs.«01_k».proof.Proof.Value.Reference

@[expose] public section
set_option maxRecDepth 16384

noncomputable section
namespace Cert.CombineRefIdeal.Layer
open Cert.CombineRefIdeal Cert.CombineRefIdeal.Gen Cert.Attn
open Cert.ReferenceIdeal.Attn (normed normed_at)
open Idealize.ShloMosaic Idealize.ShloMosaic.TcCoe Idealize.ShloMosaic.Tactic

/-- Both gates, side by side. -/
def gates (n : FVec Ideal S2x8192x2048 .f32) (w : FVec Ideal S2048x7168 .f32) : FVec Ideal S2x8192x4096 .f32 :=
  Host.divf (broadcastInDim S2x8192x4096 ![] bcast_S_S2x8192x4096 (constant S_ .f32 0x3F800000#32))
    (addf (broadcastInDim S2x8192x4096 ![] bcast_S_S2x8192x4096 (constant S_ .f32 0x3F800000#32))
      (Host.exp (Host.negf (extractStridedSlice S2x8192x4096 ![0, 0, 3072]
        (Host.dotGeneral dot_S2x8192x2048_S2048x7168_S2x8192x7168_2_0_01_1_n_n none n w) slices_S2x8192x7168_S2x8192x4096_0_0_3072))))

/-- The branches under their gates. -/
def mix (s : FVec Ideal S2x8192x4096 .f32) (a b : FVec Ideal S16384x2048 .f32) : FVec Ideal S2x8192x2048 .f32 :=
  addf (mulf (extractStridedSlice S2x8192x2048 ![0, 0, 0] s slices_S2x8192x4096_S2x8192x2048_0_0_0) (shapeCast _ a shapeCasts_S16384x2048_S2x8192x2048))
    (mulf (extractStridedSlice S2x8192x2048 ![0, 0, 2048] s slices_S2x8192x4096_S2x8192x2048_0_0_2048) (shapeCast _ b shapeCasts_S16384x2048_S2x8192x2048))

/-- The mixed rows through the output weights, and the input added. -/
def outputs (x y : FVec Ideal S2x8192x2048 .f32) (wo : FVec Ideal S2048x2048 .f32) : FVec Ideal S16384x2048 .f32 :=
  shapeCast _ (addf x (Host.dotGeneral dot_S2x8192x2048_S2048x2048_S2x8192x2048_2_0_01_1_n_n none y wo)) shapeCasts_S2x8192x2048_S16384x2048

/-- The whole reference. -/
def combine (x : FVec Ideal S2x8192x2048 .f32) (g : FVec Ideal S2048 .f32) (w : FVec Ideal S2048x7168 .f32)
    (a b : FVec Ideal S16384x2048 .f32) (wo : FVec Ideal S2048x2048 .f32) : FVec Ideal S16384x2048 .f32 :=
  outputs x (mix (gates (normed x g) w) a b) wo

theorem gates_at (n w) (b : Fin 2) (r : Fin 8192) (e : Fin 4096) :
    gates n w (ix3 b r e) = Ideal.logistic (∑ k, n (ix3 b r k) * w (ix2 k ⟨3072 + e.val, by omega⟩)) := by
  pointwise [gates]; rfl

theorem mix_at (s y z) (b : Fin 2) (r : Fin 8192) (c : Fin 2048) :
    mix s y z (ix3 b r c)
      = s (ix3 b r ⟨c.val, by omega⟩) * y (ix2 ⟨b.val * 8192 + r.val, by omega⟩ c)
        + s (ix3 b r ⟨2048 + c.val, by omega⟩) * z (ix2 ⟨b.val * 8192 + r.val, by omega⟩ c) := by
  pointwise [mix]

theorem outputs_at (x y wo) (r : Fin 16384) (c : Fin 2048) :
    outputs x y wo (ix2 r c)
      = x (ix3 ⟨r.val / 8192, by omega⟩ ⟨r.val % 8192, by omega⟩ c)
        + ∑ e, y (ix3 ⟨r.val / 8192, by omega⟩ ⟨r.val % 8192, by omega⟩ e) * wo (ix2 e c) := by
  pointwise [outputs]

/-- The reference's result at row `r`, column `c`. -/
theorem combine_at (x g w a b wo) (r : Fin 16384) (c : Fin 2048) :
    combine x g w a b wo (ix2 r c)
      = combined (fun k => x (ix3 ⟨r.val / 8192, by omega⟩ ⟨r.val % 8192, by omega⟩ k)) (fun k => g (ix1 k)) (fun k e => w (ix2 k e))
          (fun k => a (ix2 r k)) (fun k => b (ix2 r k)) (fun e k => wo (ix2 e k)) c := by
  have row : (⟨r.val / 8192 * 8192 + r.val % 8192, by omega⟩ : Fin 16384) = r := Fin.ext (Nat.div_add_mod' r.val 8192)
  have col (e : Fin 2048) : (⟨3072 + (2048 + e.val), by omega⟩ : Fin 7168) = gateB e := Fin.ext (by simp only [gateB]; omega)
  unfold combine
  rw [outputs_at]
  simp only [mix_at, gates_at, normed_at, row, col]
  rfl

end Cert.CombineRefIdeal.Layer
end
-- ==== Proof.Combine.Final.lean ====
/-
The gated combination's whole result array: every block of it is the combined rows of the block, and the blocks cover it.
-/
module

public import proofs.«01_k».proof.Proof.Combine.Kernel
public import proofs.«01_k».proof.Proof.Combine.Reference
public import Idealize.ShloMosaic.Lib.Claim

@[expose] public section
set_option maxRecDepth 16384

noncomputable section
namespace Cert.CombineIdeal.Layer
open Cert.CombineIdeal Cert.CombineIdeal.Gen Cert.Attn
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 3] := (by decide +kernel : ∀ t : Fin grid0.N, _)
theorem index3 : ∀ t : Fin cfg0.N, win0_3.index t = ![0, 4] := (by decide +kernel : ∀ t : Fin grid0.N, _)
theorem index4 : ∀ t : Fin cfg0.N, win0_4.index t = ![0, 5] := (by decide +kernel : ∀ t : Fin grid0.N, _)
theorem index5 : ∀ t : Fin cfg0.N, win0_5.index t = ![0, 6] := (by decide +kernel : ∀ t : Fin grid0.N, _)
theorem index6 : ∀ t : Fin cfg0.N, win0_6.index t = ![(grid0.coords t 0).val, 0] := (by decide +kernel : ∀ t : Fin grid0.N, _)
theorem index7 : ∀ t : Fin cfg0.N, win0_7.index t = ![(grid0.coords t 0).val, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![(grid0.coords t 0).val, 0] := (by decide +kernel : ∀ t : Fin grid0.N, _)

/-- The array's row that a block's row is. -/
def rowOf (t : Fin cfg0.N) (r : Fin 256) : Fin 16384 :=
  ⟨(grid0.coords t 0).val * 256 + r.val, by have : (grid0.coords t 0).val < 64 := (grid0.coords t 0).isLt; omega⟩

theorem placed (t : Fin cfg0.N) (r : Fin 256) (k : Fin 2048) : (win0_9.blk t).view.emb (ix2 r k) = ix2 (rowOf t r) k := by
  blk_ext [index9, rowOf]

/-- What the host hands the region: the input as rows, the norm's weights as one row, the two weights cast. -/
theorem host0 : V m c main_v0 = shapeCast S16384x2048 (m ((c.tc : Thread nD τ).loc main_arg0)) shapeCasts_S2x8192x2048_S16384x2048 := by
  entry_read; rfl
theorem host3 : V m c main_v3 = shapeCast S1x2048 (m ((c.tc : Thread nD τ).loc main_arg1)) shapeCasts_S2048_S1x2048 := by
  entry_read; rfl

/-- A row of the flattened input. -/
theorem flat_at (x : FVec Ideal S2x8192x2048 .f32) (q : Fin 16384) (k : Fin 2048) :
    shapeCast S16384x2048 x shapeCasts_S2x8192x2048_S16384x2048 (ix2 q k)
      = x (ix3 ⟨q.val / 8192, by omega⟩ ⟨q.val % 8192, by omega⟩ k) := by
  pointwise

theorem input0 (t : Fin cfg0.N) (r : Fin 256) (k : Fin 2048) :
    iblk m c 0 t (ix2 r k) = m ((c.tc : Thread nD τ).loc main_arg0) (ix3 ⟨(rowOf t r).val / 8192, by omega⟩ ⟨(rowOf t r).val % 8192, by omega⟩ k) := by
  have h : (win0_0.blk t).view.emb (ix2 r k) = ix2 (rowOf t r) k := by blk_ext [index0, rowOf]
  show V m c main_v0 ((win0_0.blk t).view.emb (ix2 r k)) = _
  rw [host0, h, flat_at]

theorem input1 (t : Fin cfg0.N) (k : Fin 2048) :
    iblk m c 1 t (ix2 0 k) = m ((c.tc : Thread nD τ).loc main_arg1) (ix1 k) := by
  have h : (win0_1.blk t).view.emb (ix2 0 k) = ix2 0 k := by blk_ext [index1]
  show V m c main_v3 ((win0_1.blk t).view.emb (ix2 0 k)) = _
  rw [host3, h]
  pointwise

theorem input2 (t : Fin cfg0.N) (k : Fin 2048) (d : Fin 1024) :
    iblk m c 2 t (ix2 k d) = m ((c.tc : Thread nD τ).loc main_arg2) (ix2 k (gateA (half 0 d))) := by
  blk_point [iblk, V, index2 t, gateA, half]
theorem input3 (t : Fin cfg0.N) (k : Fin 2048) (d : Fin 1024) :
    iblk m c 3 t (ix2 k d) = m ((c.tc : Thread nD τ).loc main_arg2) (ix2 k (gateA (half 1 d))) := by
  blk_point [iblk, V, index3 t, gateA, half]
theorem input4 (t : Fin cfg0.N) (k : Fin 2048) (d : Fin 1024) :
    iblk m c 4 t (ix2 k d) = m ((c.tc : Thread nD τ).loc main_arg2) (ix2 k (gateB (half 0 d))) := by
  blk_point [iblk, V, index4 t, gateB, half]
theorem input5 (t : Fin cfg0.N) (k : Fin 2048) (d : Fin 1024) :
    iblk m c 5 t (ix2 k d) = m ((c.tc : Thread nD τ).loc main_arg2) (ix2 k (gateB (half 1 d))) := by
  blk_point [iblk, V, index5 t, gateB, half]

theorem input6 (t : Fin cfg0.N) (r : Fin 256) (k : Fin 2048) :
    iblk m c 6 t (ix2 r k) = m ((c.tc : Thread nD τ).loc main_arg3) (ix2 (rowOf t r) k) := by
  blk_point [iblk, V, index6 t, rowOf]
theorem input7 (t : Fin cfg0.N) (r : Fin 256) (k : Fin 2048) :
    iblk m c 7 t (ix2 r k) = m ((c.tc : Thread nD τ).loc main_arg4) (ix2 (rowOf t r) k) := by
  blk_point [iblk, V, index7 t, rowOf]
theorem input8 (t : Fin cfg0.N) (a : Fin 2048) (b : Fin 2048) :
    iblk m c 8 t (ix2 a b) = m ((c.tc : Thread nD τ).loc main_arg5) (ix2 a b) := by
  blk_point [iblk, V, index8 t]

theorem final : (dats m 0 c).arrAt 9 cfg0.N
    = Cert.CombineRefIdeal.Layer.combine (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  refine Dat.arrAt_eq_of_covers (dats m 0 c) 9 _ (by decide +kernel) fun t hf y => ?_
  blk_simp [index9]
  rw [after0_9, stored]
  obtain ⟨r, k, rfl⟩ : ∃ (r : Fin 256) (k : Fin 2048), y = ix2 r k := ⟨y 0, y 1, by funext a; fin_cases a <;> rfl⟩
  rw [placed, block_at _ _ _ _ _ _ _ _ _ _ (fun k e => m ((c.tc : Thread nD τ).loc main_arg2) (ix2 k e))
    (input2 m c t) (input3 m c t) (input4 m c t) (input5 m c t), Cert.CombineRefIdeal.Layer.combine_at]
  simp only [input0, input1, input6, input7, input8]

end Cert.CombineIdeal.Layer
end
-- ==== Proof.Project.Kernel.lean ====
/-
The block one grid point of the normed projection stores, read at a row and a column: the normed row through that column
of the weights. The body stores it 512 columns at a time. -/
module

public import proofs.«01_k».proof.Proof.Gen.ProjectIdeal.Value
public import proofs.«01_k».proof.Proof.Value.Math
public import Idealize.ShloMosaic.Lib.Pipeline.ValueKit

@[expose] public section
set_option maxRecDepth 16384

noncomputable section
namespace Cert.ProjectIdeal.Layer
open Cert.ProjectIdeal Cert.ProjectIdeal.Gen Cert.Attn
open Idealize.ShloMosaic Idealize.ShloMosaic.TcCoe Idealize.ShloMosaic.Tactic

variable (x : FVec Ideal S512x2048 .f32) (g : FVec Ideal S1x2048 .f32) (r : Fin 512)

/-- The normed block. -/
theorem normed_at (c : Fin 2048) : k0_pay4 (F := Ideal) x g (ix2 r c) = norm (fun k => x (ix2 r k)) (fun k => g (ix2 0 k)) c := by
  pointwise [k0_pay4]; rfl

/-- The block's value at a row and a column. -/
def product (w : FVec Ideal S2048x3072 .bf16) (y : S512x3072.Idx) : EReal :=
  ∑ k, norm (fun k => x (ix2 (y 0) k)) (fun k => g (ix2 0 k)) k * w (ix2 k (y 1))

/-- A load of 512 of the weights' columns. -/
def cols (w : FVec Ideal S2048x3072 .bf16) (o : Nat) (inb : ∀ a, ![0, o] a + S2048x512.size a ≤ S2048x3072.size a) : FVec Ideal S2048x512 .bf16 :=
  View.ld (Val := Elt Ideal) (e' := .bf16) w (Rect.unit (s := S2048x3072) ![0, o] ![2048, 512] inb)

theorem cols_at (w : FVec Ideal S2048x3072 .bf16) (o : Nat) (ho : o + 512 ≤ 3072) (inb) (k : Fin 2048) (d : Fin 512) :
    cols w o inb (ix2 k d) = w (ix2 k ⟨o + d.val, by omega⟩) := by
  unfold cols; pointwise

theorem step1_at (n : FVec Ideal S512x2048 .bf16) (w : FVec Ideal S2048x512 .bf16) (d : Fin 512) :
    k0_pay1 (F := Ideal) n (k0_pay8 w) (constant S512x512 .f32 0x00000000#32) (ix2 r d) = ∑ k, n (ix2 r k) * w (ix2 k d) := by
  pointwise [k0_pay1, k0_pay8]
theorem step2_at (n : FVec Ideal S512x2048 .bf16) (w : FVec Ideal S2048x512 .bf16) (d : Fin 512) :
    k0_pay2 (F := Ideal) n w (ix2 r d) = ∑ k, n (ix2 r k) * w (ix2 k d) := by
  pointwise [k0_pay2]
theorem step3_at (n : FVec Ideal S512x2048 .bf16) (w : FVec Ideal S2048x512 .bf16) (d : Fin 512) :
    k0_pay3 (F := Ideal) n w (ix2 r d) = ∑ k, n (ix2 r k) * w (ix2 k d) := by
  pointwise [k0_pay3]
theorem step5_at (w : FVec Ideal S2048x512 .bf16) (d : Fin 512) :
    k0_pay5 (F := Ideal) x g w (ix2 r d) = ∑ k, k0_pay4 (F := Ideal) x g (ix2 r k) * w (ix2 k d) := by
  pointwise [k0_pay5]
theorem step6_at (w : FVec Ideal S2048x512 .bf16) (d : Fin 512) :
    k0_pay6 (F := Ideal) x g w (ix2 r d) = ∑ k, k0_pay4 (F := Ideal) x g (ix2 r k) * w (ix2 k d) := by
  pointwise [k0_pay6]
theorem step7_at (w : FVec Ideal S2048x512 .bf16) (d : Fin 512) :
    k0_pay7 (F := Ideal) x g w (ix2 r d) = ∑ k, k0_pay4 (F := Ideal) x g (ix2 r k) * w (ix2 k d) := by
  pointwise [k0_pay7]

/-- One store's payload agrees with the block's value in its columns. -/
theorem piece (w : FVec Ideal S2048x3072 .bf16) (o : Nat) (ho : o + 512 ≤ 3072) (inb) (inb') (p : FVec Ideal S512x512 .f32)
    (h : ∀ r d, p (ix2 r d) = ∑ k, k0_pay4 (F := Ideal) x g (ix2 r k) * cols w o inb (ix2 k d)) (z : S512x512.Idx) :
    p z = product x g w ((Rect.unit (s := S512x3072) ![0, o] ![512, 512] inb').emb z) := by
  obtain ⟨r, d, rfl⟩ : ∃ (r d : Fin 512), z = ix2 r d := ⟨z 0, z 1, by funext a; fin_cases a <;> rfl⟩
  rw [h]
  unfold product
  refine Finset.sum_congr rfl fun k _ => ?_
  rw [normed_at, cols_at w o ho]
  have e0 : (Rect.unit (s := S512x3072) ![0, o] ![512, 512] inb').emb (ix2 r d) 0 = r := Fin.ext (by simp)
  have e1 : (Rect.unit (s := S512x3072) ![0, o] ![512, 512] inb').emb (ix2 r d) 1 = (⟨o + d.val, by omega⟩ : Fin 3072) := Fin.ext (by simp)
  rw [e0, e1]

theorem stored (m : (ℓ : Loc nD τ sig) → Buf (Elt Ideal) ℓ) (c : Dev nD) (t : Fin cfg0.N) :
    outsAt0 m c t = product (iblk m c 0 t) (iblk m c 1 t) (X0_2 m c t) := by
  funext y
  have cov := cover0_A_3 (F := Ideal) c (grid0.coords t) (ms0_0 t) (hs0_0 t) (ms0_1 t) (hs0_1 t) (ms0_2 t) (hs0_2 t) (ms0_3 t) (hs0_3 t) (iblk m c 0 t) (iblk m c 1 t) (X0_2 m c t) y
  unfold outsAt0 out0_A_3
  rw [View.read_writes_junk_eq_canon]
  refine View.canon_apply_of_pieces (product (iblk m c 0 t) (iblk m c 1 t) (X0_2 m c t)) _ ?_ y cov
  frame_out
  intro p hp
  simp only [List.mem_cons, List.not_mem_nil, or_false] at hp
  rcases hp with rfl | rfl | rfl | rfl | rfl | rfl
  · exact piece _ _ _ 2560 (by decide) inb_S2048x3072_S2048x512_0_2560 inb_S512x3072_S512x512_0_2560 _ fun r d => step3_at r _ _ d
  · exact piece _ _ _ 2048 (by decide) inb_S2048x3072_S2048x512_0_2048 inb_S512x3072_S512x512_0_2048 _ fun r d => step2_at r _ _ d
  · exact piece _ _ _ 1536 (by decide) inb_S2048x3072_S2048x512_0_1536 inb_S512x3072_S512x512_0_1536 _ fun r d => step1_at r _ _ d
  · exact piece _ _ _ 1024 (by decide) inb_S2048x3072_S2048x512_0_1024 inb_S512x3072_S512x512_0_1024 _ fun r d => step7_at _ _ r _ d
  · exact piece _ _ _ 512 (by decide) inb_S2048x3072_S2048x512_0_512 inb_S512x3072_S512x512_0_512 _ fun r d => step6_at _ _ r _ d
  · exact piece _ _ _ 0 (by decide) inb_S2048x3072_S2048x512_0_0 inb_S512x3072_S512x512_0_0 _ fun r d => step5_at _ _ r _ d

end Cert.ProjectIdeal.Layer
end
-- ==== Proof.Project.Reference.lean ====
/-
The reference of the normed projection, read at an index. -/
module

public import proofs.«01_k».proof.Proof.Gen.ProjectRefIdeal.Run
public import proofs.«01_k».proof.Proof.Value.Reference

@[expose] public section
set_option maxRecDepth 16384

noncomputable section
namespace Cert.ProjectRefIdeal.Layer
open Cert.ProjectRefIdeal Cert.ProjectRefIdeal.Gen Cert.Attn
open Cert.ReferenceIdeal.Attn (normed normed_at)
open Idealize.ShloMosaic Idealize.ShloMosaic.TcCoe Idealize.ShloMosaic.Tactic

/-- The first 3072 columns of the normed rows through the weights. -/
def through (n : FVec Ideal S2x8192x2048 .f32) (w : FVec Ideal S2048x7168 .f32) : FVec Ideal S16384x3072 .f32 :=
  shapeCast _ (extractStridedSlice S2x8192x3072 ![0, 0, 0] (Host.dotGeneral dot_S2x8192x2048_S2048x7168_S2x8192x7168_2_0_01_1_n_n none n w)
    slices_S2x8192x7168_S2x8192x3072_0_0_0) shapeCasts_S2x8192x3072_S16384x3072

/-- The whole reference. -/
def project (x : FVec Ideal S2x8192x2048 .f32) (g : FVec Ideal S2048 .f32) (w : FVec Ideal S2048x7168 .f32) : FVec Ideal S16384x3072 .f32 :=
  through (normed x g) w

theorem through_at (n w) (r : Fin 16384) (c : Fin 3072) :
    through n w (ix2 r c) = ∑ k, n (ix3 ⟨r.val / 8192, by omega⟩ ⟨r.val % 8192, by omega⟩ k) * w (ix2 k ⟨c.val, by omega⟩) := by
  pointwise [through]

/-- The reference's result at row `r`, column `c`. -/
theorem project_at (x g w) (r : Fin 16384) (c : Fin 3072) :
    project x g w (ix2 r c)
      = ∑ k, norm (fun k => x (ix3 ⟨r.val / 8192, by omega⟩ ⟨r.val % 8192, by omega⟩ k)) (fun k => g (ix1 k)) k * w (ix2 k ⟨c.val, by omega⟩) := by
  unfold project
  rw [through_at]
  simp only [normed_at]

end Cert.ProjectRefIdeal.Layer
end
-- ==== Proof.Project.Final.lean ====
/-
The normed projection's whole result array: every block of it is the normed rows of the block through the weights, and the
blocks cover it. -/
module

public import proofs.«01_k».proof.Proof.Project.Kernel
public import proofs.«01_k».proof.Proof.Project.Reference
public import Idealize.ShloMosaic.Lib.Claim

@[expose] public section
set_option maxRecDepth 16384

noncomputable section
namespace Cert.ProjectIdeal.Layer
open Cert.ProjectIdeal Cert.ProjectIdeal.Gen Cert.Attn
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 0).val, 0] := (by decide +kernel : ∀ t : Fin grid0.N, _)

/-- The array's row that a block's row is. -/
def rowOf (t : Fin cfg0.N) (r : Fin 512) : Fin 16384 :=
  ⟨(grid0.coords t 0).val * 512 + r.val, by have : (grid0.coords t 0).val < 32 := (grid0.coords t 0).isLt; omega⟩

theorem placed (t : Fin cfg0.N) (r : Fin 512) (k : Fin 3072) : (win0_3.blk t).view.emb (ix2 r k) = ix2 (rowOf t r) k := by
  blk_ext [index3, rowOf]

/-- What the host hands the region: the input as rows and the norm's weights as one row. -/
theorem host0 : V m c main_v0 = shapeCast S16384x2048 (m ((c.tc : Thread nD τ).loc main_arg0)) shapeCasts_S2x8192x2048_S16384x2048 := by
  entry_read; rfl
theorem host2 : V m c main_v2 = shapeCast S1x2048 (m ((c.tc : Thread nD τ).loc main_arg1)) shapeCasts_S2048_S1x2048 := by
  entry_read; rfl

/-- A row of the flattened input. -/
theorem flat_at (x : FVec Ideal S2x8192x2048 .f32) (q : Fin 16384) (k : Fin 2048) :
    shapeCast S16384x2048 x shapeCasts_S2x8192x2048_S16384x2048 (ix2 q k)
      = x (ix3 ⟨q.val / 8192, by omega⟩ ⟨q.val % 8192, by omega⟩ k) := by
  pointwise

theorem input0 (t : Fin cfg0.N) (r : Fin 512) (k : Fin 2048) :
    iblk m c 0 t (ix2 r k) = m ((c.tc : Thread nD τ).loc main_arg0) (ix3 ⟨(rowOf t r).val / 8192, by omega⟩ ⟨(rowOf t r).val % 8192, by omega⟩ k) := by
  have h : (win0_0.blk t).view.emb (ix2 r k) = ix2 (rowOf t r) k := by blk_ext [index0, rowOf]
  show V m c main_v0 ((win0_0.blk t).view.emb (ix2 r k)) = _
  rw [host0, h, flat_at]

theorem input1 (t : Fin cfg0.N) (k : Fin 2048) :
    iblk m c 1 t (ix2 0 k) = m ((c.tc : Thread nD τ).loc main_arg1) (ix1 k) := by
  have h : (win0_1.blk t).view.emb (ix2 0 k) = ix2 0 k := by blk_ext [index1]
  show V m c main_v2 ((win0_1.blk t).view.emb (ix2 0 k)) = _
  rw [host2, h]
  pointwise

/-- The weights' block is the array's first 3072 columns, none of it cut. -/
theorem input2 (t : Fin cfg0.N) (k : Fin 2048) (d : Fin 3072) :
    X0_2 m c t (ix2 k d) = m ((c.tc : Thread nD τ).loc main_arg2) (ix2 k ⟨d.val, by omega⟩) := by
  unfold X0_2 Pipeline.Window.fill
  rw [dif_pos (moved0_2 t _)]
  blk_point [iblk, V, index2 t]

theorem final : (dats m 0 c).arrAt 3 cfg0.N
    = Cert.ProjectRefIdeal.Layer.project (m ((c.tc : Thread nD τ).loc main_arg0)) (m ((c.tc : Thread nD τ).loc main_arg1))
      (m ((c.tc : Thread nD τ).loc main_arg2)) := by
  refine Dat.arrAt_eq_of_covers (dats m 0 c) 3 _ (by decide +kernel) fun t hf y => ?_
  blk_simp [index3]
  rw [after0_3, stored]
  obtain ⟨r, k, rfl⟩ : ∃ (r : Fin 512) (k : Fin 3072), y = ix2 r k := ⟨y 0, y 1, by funext a; fin_cases a <;> rfl⟩
  rw [placed, Cert.ProjectRefIdeal.Layer.project_at]
  show ∑ a, norm (fun k => iblk m c 0 t (ix2 r k)) (fun k => iblk m c 1 t (ix2 0 k)) a * X0_2 m c t (ix2 a k) = _
  simp only [input0, input1, input2]

end Cert.ProjectIdeal.Layer
end
-- ==== Proof.Memory.Kernel.lean ====
/-
The block one grid point of the memory's keys and values stores. The first point of each eight norms the memory into a
scratch that the seven points after it find there. -/
module

public import proofs.«01_k».proof.Proof.Gen.MemoryIdeal.Value
public import proofs.«01_k».proof.Proof.Value.Math
public import Idealize.ShloMosaic.Lib.Pipeline.ValueKit
public import Idealize.ShloMosaic.Lib.Pipeline.ReadBack

@[expose] public section
set_option maxRecDepth 16384

noncomputable section
namespace Cert.MemoryIdeal.Layer
open Cert.MemoryIdeal Cert.MemoryIdeal.Gen Cert.Attn
open Idealize.ShloMosaic Idealize.ShloMosaic.TcCoe Idealize.ShloMosaic.Tactic

/-- The normed block. -/
theorem normed_at (x : FVec Ideal S512x2048 .f32) (g : FVec Ideal S1x2048 .f32) (r : Fin 512) (c : Fin 2048) :
    k0_pay1 (F := Ideal) x g (ix2 r c) = norm (fun k => x (ix2 r k)) (fun k => g (ix2 0 k)) c := by
  pointwise [k0_pay1]; rfl

/-- The normed block through the weights' columns. -/
theorem product_at (n : FVec Ideal S512x2048 .bf16) (w : FVec Ideal S2048x512 .bf16) (r d : Fin 512) :
    k0_pay2 (F := Ideal) n w (ix2 r d) = ∑ k, n (ix2 r k) * w (ix2 k d) := by
  pointwise [k0_pay2]

variable (m : (ℓ : Loc nD τ sig) → Buf (Elt Ideal) ℓ) (c : Dev nD)

theorem first (t : Fin cfg0.N) (h : t.val % 8 = 0) :
    outsAt0 m c t.val t.isLt = (k0_pay2 (F := Ideal) (k0_pay1 (iblk m c 0 t) (iblk m c 1 t)) (iblk m c 2 t), k0_pay1 (F := Ideal) (iblk m c 0 t) (iblk m c 1 t)) := by
  rw [outsAt0_A m c t h]
  frame_out

theorem later (t : Fin cfg0.N) (h : ¬t.val % 8 = 0) :
    outsAt0 m c t.val t.isLt
      = (k0_pay2 (F := Ideal) (outsAt0 m c (t.val - 1) (Nat.lt_of_le_of_lt (Nat.sub_le _ _) t.isLt)).2 (iblk m c 2 t),
         (outsAt0 m c (t.val - 1) (Nat.lt_of_le_of_lt (Nat.sub_le _ _) t.isLt)).2) := by
  rw [outsAt0_B m c t h]
  frame_out
  simp only [read_unread_whole]
  rfl

/-- The region's first point. -/
def origin : Fin cfg0.N := ⟨0, by decide⟩

/-- Every point leaves the normed memory in the scratch. -/
theorem kept (hx : ∀ t, iblk m c 0 t = iblk m c 0 origin) (hg : ∀ t, iblk m c 1 t = iblk m c 1 origin) (n : Nat) (h : n < cfg0.N) :
    (outsAt0 m c n h).2 = k0_pay1 (F := Ideal) (iblk m c 0 origin) (iblk m c 1 origin) := by
  induction n with
  | zero => exact congrArg Prod.snd (first m c origin rfl)
  | succ n ih =>
    by_cases h0 : (n + 1) % 8 = 0
    · refine (congrArg Prod.snd (first m c ⟨n + 1, h⟩ h0)).trans ?_
      rw [hx, hg]
    · exact (congrArg Prod.snd (later m c ⟨n + 1, h⟩ h0)).trans (ih _)

/-- Every point stores the normed memory through its columns of the weights. -/
theorem stored (hx : ∀ t, iblk m c 0 t = iblk m c 0 origin) (hg : ∀ t, iblk m c 1 t = iblk m c 1 origin) (t : Fin cfg0.N) :
    (outsAt0 m c t.val t.isLt).1 = k0_pay2 (F := Ideal) (k0_pay1 (iblk m c 0 origin) (iblk m c 1 origin)) (iblk m c 2 t) := by
  by_cases h0 : t.val % 8 = 0
  · rw [first m c t h0, hx t, hg t]
  · rw [later m c t h0, kept m c hx hg]

end Cert.MemoryIdeal.Layer
end
-- ==== Proof.Memory.Reference.lean ====
/-
The reference of the memory's keys and values, read at an index: keys in the first 2048 columns, values in the rest. -/
module

public import proofs.«01_k».proof.Proof.Gen.MemoryRefIdeal.Run
public import proofs.«01_k».proof.Proof.Value.Math

@[expose] public section
set_option maxRecDepth 16384

noncomputable section
namespace Cert.MemoryRefIdeal.Layer
open Cert.MemoryRefIdeal Cert.MemoryRefIdeal.Gen Cert.Attn
open Idealize.ShloMosaic Idealize.ShloMosaic.TcCoe Idealize.ShloMosaic.Tactic

/-- The root-mean-square norm of the memory. -/
def normed (x : FVec Ideal S2x256x2048 .f32) (g : FVec Ideal S2048 .f32) : FVec Ideal S2x256x2048 .f32 :=
  mulf (mulf x (broadcastInDim S2x256x2048 ![0, 1, 2] bcast_S2x256x1_S2x256x2048_0_1_2
    (Host.rsqrt (addf (Host.divf (broadcastInDim S2x256x1 ![0, 1] bcast_S2x256_S2x256x1_0_1
      (Host.reduceAdd (mulf x x) (constant S_ .f32 0x00000000#32) reducesTo_S2x256x2048_S2x256_d2 h_S_))
      (broadcastInDim S2x256x1 ![] bcast_S_S2x256x1 (constant S_ .f32 0x45000000#32)))
      (broadcastInDim S2x256x1 ![] bcast_S_S2x256x1 (constant S_ .f32 0x358637BD#32))))))
    (broadcastInDim S2x256x2048 ![0, 1, 2] bcast_S1x1x2048_S2x256x2048_0_1_2 (broadcastInDim S1x1x2048 ![2] bcast_S2048_S1x1x2048_2 g))

/-- The normed memory through one weight. -/
def through (n : FVec Ideal S2x256x2048 .f32) (w : FVec Ideal S2048x2048 .f32) : FVec Ideal S2x256x2048 .f32 :=
  Host.dotGeneral dot_S2x256x2048_S2048x2048_S2x256x2048_2_0_01_1_n_n none n w

/-- Keys and values side by side, as rows. -/
def joined (k v : FVec Ideal S2x256x2048 .f32) : FVec Ideal S512x4096 .bf16 :=
  truncf .bf16 (shapeCast _ (concatenate S2x256x4096 2 [⟨S2x256x2048, k⟩, ⟨S2x256x2048, v⟩]
    concatenates_S2x256x2048_S2x256x2048_S2x256x4096_d2) shapeCasts_S2x256x4096_S512x4096) bitsLt_bf16_f32

/-- The whole reference. -/
def memory (x : FVec Ideal S2x256x2048 .f32) (g : FVec Ideal S2048 .f32) (wk wv : FVec Ideal S2048x2048 .f32) : FVec Ideal S512x4096 .bf16 :=
  joined (through (normed x g) wk) (through (normed x g) wv)

theorem normed_at (x g) (b : Fin 2) (r : Fin 256) (c : Fin 2048) :
    normed x g (ix3 b r c) = norm (fun k => x (ix3 b r k)) (fun k => g (ix1 k)) c := by
  pointwise [normed]; rfl

theorem through_at (n w) (b : Fin 2) (r : Fin 256) (c : Fin 2048) :
    through n w (ix3 b r c) = ∑ k, n (ix3 b r k) * w (ix2 k c) := by
  pointwise [through]

theorem joined_at (k v) (r : Fin 512) (c : Fin 4096) :
    joined k v (ix2 r c)
      = if h : c.val < 2048 then k (ix3 ⟨r.val / 256, by omega⟩ ⟨r.val % 256, by omega⟩ ⟨c.val, h⟩)
        else v (ix3 ⟨r.val / 256, by omega⟩ ⟨r.val % 256, by omega⟩ ⟨c.val - 2048, by omega⟩) := by
  pointwise [joined]

/-- The reference's result at row `r`, column `c`. -/
theorem memory_at (x g wk wv) (r : Fin 512) (c : Fin 4096) :
    memory x g wk wv (ix2 r c)
      = ∑ k, norm (fun k => x (ix3 ⟨r.val / 256, by omega⟩ ⟨r.val % 256, by omega⟩ k)) (fun k => g (ix1 k)) k
          * (if h : c.val < 2048 then wk (ix2 k ⟨c.val, h⟩) else wv (ix2 k ⟨c.val - 2048, by omega⟩)) := by
  unfold memory
  rw [joined_at]
  split <;> simp only [through_at, normed_at]

end Cert.MemoryRefIdeal.Layer
end
-- ==== Proof.Memory.Final.lean ====
/-
The whole array of the memory's keys and values: every block of it is the normed memory through the block's columns of the
two weights, and the blocks cover it. -/
module

public import proofs.«01_k».proof.Proof.Memory.Kernel
public import proofs.«01_k».proof.Proof.Memory.Reference
public import Idealize.ShloMosaic.Lib.Claim

@[expose] public section
set_option maxRecDepth 16384

noncomputable section
namespace Cert.MemoryIdeal.Layer
open Cert.MemoryIdeal Cert.MemoryIdeal.Gen Cert.Attn
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, (grid0.coords t 1).val] := (by decide +kernel : ∀ t : Fin grid0.N, _)
theorem index3 : ∀ t : Fin cfg0.N, win0_3.index t = ![0, (grid0.coords t 1).val] := (by decide +kernel : ∀ t : Fin grid0.N, _)

/-- The array's column that a block's column is. -/
def colOf (t : Fin cfg0.N) (d : Fin 512) : Fin 4096 :=
  ⟨(grid0.coords t 1).val * 512 + d.val, by have : (grid0.coords t 1).val < 8 := (grid0.coords t 1).isLt; omega⟩

theorem placed (t : Fin cfg0.N) (r d : Fin 512) : (win0_3.blk t).view.emb (ix2 r d) = ix2 r (colOf t d) := by
  blk_ext [index3, colOf]

/-- What the host hands the region: the memory as rows, the norm's weights as one row, the two weights side by side. -/
theorem host2 : V m c main_v2 = shapeCast S512x2048 (m ((c.tc : Thread nD τ).loc main_arg0)) shapeCasts_S2x256x2048_S512x2048 := by
  entry_read; rfl
theorem host3 : V m c main_v3 = shapeCast S1x2048 (m ((c.tc : Thread nD τ).loc main_arg1)) shapeCasts_S2048_S1x2048 := by
  entry_read; rfl
theorem host1 : V m c main_v1 = truncf (F := Ideal) (φ := .f32) .bf16 (concatenate S2048x4096 1 [⟨S2048x2048, m ((c.tc : Thread nD τ).loc main_arg2)⟩,
    ⟨S2048x2048, m ((c.tc : Thread nD τ).loc main_arg3)⟩] concatenates_S2048x2048_S2048x2048_S2048x4096_d1) bitsLt_bf16_f32 := by
  entry_read; rfl

theorem flat_at (x : FVec Ideal S2x256x2048 .f32) (q : Fin 512) (k : Fin 2048) :
    shapeCast S512x2048 x shapeCasts_S2x256x2048_S512x2048 (ix2 q k)
      = x (ix3 ⟨q.val / 256, by omega⟩ ⟨q.val % 256, by omega⟩ k) := by
  pointwise

theorem joined_at (a b : FVec Ideal S2048x2048 .f32) (k : Fin 2048) (e : Fin 4096) :
    truncf (F := Ideal) (φ := .f32) .bf16 (concatenate S2048x4096 1 [⟨S2048x2048, a⟩, ⟨S2048x2048, b⟩] concatenates_S2048x2048_S2048x2048_S2048x4096_d1) bitsLt_bf16_f32 (ix2 k e)
      = if h : e.val < 2048 then a (ix2 k ⟨e.val, h⟩) else b (ix2 k ⟨e.val - 2048, by omega⟩) := by
  pointwise

theorem input0 (t : Fin cfg0.N) (r : Fin 512) (k : Fin 2048) :
    iblk m c 0 t (ix2 r k) = m ((c.tc : Thread nD τ).loc main_arg0) (ix3 ⟨r.val / 256, by omega⟩ ⟨r.val % 256, by omega⟩ k) := by
  have h : (win0_0.blk t).view.emb (ix2 r k) = ix2 r k := by blk_ext [index0]
  show V m c main_v2 ((win0_0.blk t).view.emb (ix2 r k)) = _
  rw [host2, h, flat_at]

theorem input1 (t : Fin cfg0.N) (k : Fin 2048) :
    iblk m c 1 t (ix2 0 k) = m ((c.tc : Thread nD τ).loc main_arg1) (ix1 k) := by
  have h : (win0_1.blk t).view.emb (ix2 0 k) = ix2 0 k := by blk_ext [index1]
  show V m c main_v3 ((win0_1.blk t).view.emb (ix2 0 k)) = _
  rw [host3, h]
  pointwise

theorem input2 (t : Fin cfg0.N) (k : Fin 2048) (d : Fin 512) :
    iblk m c 2 t (ix2 k d) = if h : (colOf t d).val < 2048 then m ((c.tc : Thread nD τ).loc main_arg2) (ix2 k ⟨(colOf t d).val, h⟩)
      else m ((c.tc : Thread nD τ).loc main_arg3) (ix2 k ⟨(colOf t d).val - 2048, by omega⟩) := by
  have h : (win0_2.blk t).view.emb (ix2 k d) = ix2 k (colOf t d) := by blk_ext [index2, colOf]
  show V m c main_v1 ((win0_2.blk t).view.emb (ix2 k d)) = _
  rw [host1, h, joined_at]

/-- The first two blocks are the same at every point. -/
theorem same0 (t : Fin cfg0.N) : iblk m c 0 t = iblk m c 0 origin := by
  funext y
  obtain ⟨r, k, rfl⟩ : ∃ (r : Fin 512) (k : Fin 2048), y = ix2 r k := ⟨y 0, y 1, by funext a; fin_cases a <;> rfl⟩
  exact (input0 m c t r k).trans (input0 m c origin r k).symm
theorem same1 (t : Fin cfg0.N) : iblk m c 1 t = iblk m c 1 origin := by
  funext y
  obtain ⟨r, k, rfl⟩ : ∃ (r : Fin 1) (k : Fin 2048), y = ix2 r k := ⟨y 0, y 1, by funext a; fin_cases a <;> rfl⟩
  obtain rfl : r = 0 := Subsingleton.elim _ _
  exact (input1 m c t k).trans (input1 m c origin k).symm

theorem final : (dats m 0 c).arrAt 3 cfg0.N
    = Cert.MemoryRefIdeal.Layer.memory (m ((c.tc : Thread nD τ).loc main_arg0)) (m ((c.tc : Thread nD τ).loc main_arg1))
      (m ((c.tc : Thread nD τ).loc main_arg2)) (m ((c.tc : Thread nD τ).loc main_arg3)) := by
  refine Dat.arrAt_eq_of_covers (dats m 0 c) 3 _ (by decide +kernel) fun t hf y => ?_
  blk_simp [index3]
  rw [after0_3, stored m c (same0 m c) (same1 m c)]
  obtain ⟨r, d, rfl⟩ : ∃ (r d : Fin 512), y = ix2 r d := ⟨y 0, y 1, by funext a; fin_cases a <;> rfl⟩
  rw [placed, product_at, Cert.MemoryRefIdeal.Layer.memory_at]
  simp only [normed_at, input0, input1, input2]

end Cert.MemoryIdeal.Layer
end
-- ==== Proof.Conv.Taps.lean ====
/-
The taps of the depthwise convolution: what one trip of the loop over chunks of rows stores, one block of eight rows and
a hundred and twenty-eight columns after another. -/
module

public import proofs.«01_k».proof.Proof.Gen.ConvIdeal.Loops

@[expose] public section
set_option maxRecDepth 65536

noncomputable section
namespace Cert.ConvIdeal.Layer
open Cert.ConvIdeal Cert.ConvIdeal.Gen
open Idealize.ShloMosaic Idealize.ShloMosaic.TcCoe Idealize.ShloMosaic.Tactic

/-- Where a slab's rows are loaded, and where its result is stored. -/
def loadOff (s : Fin 8) : Fin k0_t1_loop.trips → BitVec 32 → BitVec 32 → Fin 3 → Nat :=
  match s with
  | 0 => k0_off1 | 1 => k0_off3 | 2 => k0_off5 | 3 => k0_off7 | 4 => k0_off9 | 5 => k0_off11 | 6 => k0_off13 | 7 => k0_off15
def storeOff (s : Fin 8) : Fin k0_t1_loop.trips → BitVec 32 → Fin 2 → Nat :=
  match s with
  | 0 => k0_off2 | 1 => k0_off4 | 2 => k0_off6 | 3 => k0_off8 | 4 => k0_off10 | 5 => k0_off12 | 6 => k0_off14 | 7 => k0_off16

variable {F : FTy → Type} [FloatOps F] (k : Fin k0_t1_loop.trips) (s g : Fin 8)

theorem trips_le : k.val < 8 := Nat.lt_of_lt_of_le k.isLt k0_t1_abs.2.1

theorem loadOff_eq (j : Fin 31) : loadOff s k (BitVec.ofNat 32 (8 * g.val)) (BitVec.ofNat 32 j.val) = ![s.val, 64 * k.val + 8 * g.val + j.val + 2, 0] :=
  match s with
  | 0 => k0_off1_eq k g j | 1 => k0_off3_eq k g j | 2 => k0_off5_eq k g j | 3 => k0_off7_eq k g j
  | 4 => k0_off9_eq k g j | 5 => k0_off11_eq k g j | 6 => k0_off13_eq k g j | 7 => k0_off15_eq k g j

theorem storeOff_eq : storeOff s k (BitVec.ofNat 32 (8 * g.val)) = ![64 * k.val + 8 * g.val, 128 * s.val] :=
  match s with
  | 0 => k0_off2_eq k g | 1 => k0_off4_eq k g | 2 => k0_off6_eq k g | 3 => k0_off8_eq k g
  | 4 => k0_off10_eq k g | 5 => k0_off12_eq k g | 6 => k0_off14_eq k g | 7 => k0_off16_eq k g

theorem load_inb (j : Fin 31) (a : Fin 3) :
    loadOff s k (BitVec.ofNat 32 (8 * g.val)) (BitVec.ofNat 32 j.val) a + S1x8x128.size a ≤ S8x544x128.size a := by
  rw [loadOff_eq]
  have := trips_le k
  match a with
  | 0 => show s.val + 1 ≤ 8; omega
  | 1 => show 64 * k.val + 8 * g.val + j.val + 2 + 8 ≤ 544; omega
  | 2 => show 0 + 128 ≤ 128; omega

theorem store_inb (a : Fin 2) : storeOff s k (BitVec.ofNat 32 (8 * g.val)) a + S8x128.size a ≤ S512x1024.size a := by
  rw [storeOff_eq]
  have := trips_le k
  match a with
  | 0 => show 64 * k.val + 8 * g.val + 8 ≤ 512; omega
  | 1 => show 128 * s.val + 128 ≤ 1024; omega

theorem weight_inb (j : Fin 32) (a : Fin 3) : (![j.val, 0, 128 * s.val] : Fin 3 → Nat) a + S1x8x128.size a ≤ S32x8x1024.size a := by
  match a with
  | 0 => show j.val + 1 ≤ 32; omega
  | 1 => show 0 + 8 ≤ 8; omega
  | 2 => show 128 * s.val + 128 ≤ 1024; omega

variable (arg12 : Memref sig .tc .vmem S8x544x128 .f32) (arg13 : Memref sig .tc .vmem S32x8x1024 .f32)
  (X12 : BufTy.Contents (Elt F) arg12.view.ty) (X13 : BufTy.Contents (Elt F) arg13.view.ty)

/-- The rows a tap meets, and a tap's weights. -/
def rows (j : Fin 31) : FVec F S8x128 .f32 :=
  shapeCast S8x128 (View.readAt (Elt F) arg12.view
    (Rect.unit (s := S8x544x128) (loadOff s k (BitVec.ofNat 32 (8 * g.val)) (BitVec.ofNat 32 j.val)) S1x8x128.size (load_inb k s g j)).toLoadRect X12)
    shapeCasts_S1x8x128_S8x128
def weights (j : Fin 32) : FVec F S8x128 .f32 :=
  shapeCast S8x128 (View.readAt (Elt F) arg13.view
    (Rect.unit (s := S32x8x1024) ![j.val, 0, 128 * s.val] S1x8x128.size (weight_inb s j)).toLoadRect X13)
    shapeCasts_S1x8x128_S8x128

/-- The bias and the first `n` taps. -/
def taps : (n : Nat) → n ≤ 31 → FVec F S8x128 .f32
  | 0, _ => weights s arg13 X13 ⟨31, by decide⟩
  | n + 1, h => addf (taps n (Nat.le_of_succ_le h))
      (mulf (weights s arg13 X13 ⟨n, Nat.lt_succ_of_lt h⟩) (rows k s g arg12 X12 ⟨n, h⟩))

/-- What a trip stores for one slab and one group of rows. -/
def stored : View.Piece (Elt F) S512x1024 .f32 :=
  ⟨Rect.unit (s := S512x1024) (storeOff s k (BitVec.ofNat 32 (8 * g.val))) S8x128.size (store_inb k s g),
   shapeCast S8x128 (taps k s g arg12 arg13 X12 X13 31 (Nat.le_refl _)) shapeCasts_S8x128_S8x128⟩

def down : List (Fin 8) := [7, 6, 5, 4, 3, 2, 1, 0]

variable (𝒱 : Variants) (c : Dev nD) (bd : Option 𝒱.V) (i : grid0.Coords)
  (arg2 : Memref sig .tc .vmem S512x1024 .f32) (harg2 : arg2.IsWhole) (arg3 : Memref sig .tc .vmem S512x1024 .f32) (harg3 : arg3.IsWhole)
  (arg4 : Memref sig .tc .vmem S32x1024 .f32) (harg4 : arg4.IsWhole) (arg5 : Memref sig .tc .vmem S32x1024 .f32) (harg5 : arg5.IsWhole)
  (arg6 : Memref sig .tc .vmem S31x1024 .f32) (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S1024x2048 .bf16) (harg10 : arg10.IsWhole) (arg11 : Memref sig .tc .vmem S512x2048 .f32) (harg11 : arg11.IsWhole)
  (harg12 : arg12.IsWhole) (harg13 : arg13.IsWhole) (arg14 : Memref sig .tc .vmem S512x1024 .f32) (harg14 : arg14.IsWhole)
  (arg1 : BitVec 32) (v12 : FVec F S32x1024 .f32) (v22 : FVec F S512x1024 .f32) (v62 : FVec F S1x512x128 .f32)

/-- A trip stores slab after slab, and in a slab group after group. -/
theorem trip_eq :
    tripL_k0_t1 (F := F) 𝒱 c bd i arg2 harg2 arg3 harg3 arg4 harg4 arg5 harg5 arg6 harg6 arg7 harg7 arg8 harg8 arg9 harg9 arg10 harg10
        arg11 harg11 arg12 harg12 arg13 harg13 arg14 harg14 arg1 v12 v22 v62 X12 X13 k
      = down.flatMap fun s => down.map fun g => stored k s g arg12 arg13 X12 X13 := by
  unfold tripL_k0_t1 trip_k0_t1
  rfl

end Cert.ConvIdeal.Layer
end
-- ==== Proof.Conv.Math.lean ====
/-
The convolution branch over extended reals, by coordinates: the gated input, the depthwise taps, the layer norm of a row
and its product with the output weights.
-/
module

public import proofs.«01_k».proof.Proof.Combine.Math

@[expose] public section
set_option maxRecDepth 16384

noncomputable section
namespace Cert.Branch
open Idealize.ShloMosaic

/-- The gated input. -/
def glu (a b : EReal) : EReal := a * Ideal.logistic b

/-- A bias and the first `n` of the taps, one after the other. -/
def chain (b : EReal) (w z : Fin 31 → EReal) : (n : Nat) → n ≤ 31 → EReal
  | 0, _ => b
  | n + 1, h => chain b w z n (Nat.le_of_succ_le h) + w ⟨n, h⟩ * z ⟨n, h⟩

theorem chain_eq (b : EReal) (w z : Fin 31 → EReal) (n : Nat) (h : n ≤ 31) :
    chain b w z n h = b + ∑ j : Fin n, w (j.castLE h) * z (j.castLE h) := by
  induction n with
  | zero => simp [chain]
  | succ n ih => rw [chain, ih, Fin.sum_univ_castSucc, add_assoc]; rfl

/-- All the taps are their sum over the bias. -/
theorem chain_all (b : EReal) (w z : Fin 31 → EReal) (h : 31 ≤ 31) : chain b w z 31 h = b + ∑ j, w j * z j := chain_eq b w z 31 h

/-- A row's mean, a row less its mean, the layer norm of a row with gain `g` and offset `o`, and its product with its logistic. -/
def mean (y : Fin 1024 → EReal) : EReal := Ideal.div (∑ k, y k) (Ideal.ofBits .f32 0x44800000#32)
def centred (y : Fin 1024 → EReal) (k : Fin 1024) : EReal := y k - mean y
def layerNorm (y g o : Fin 1024 → EReal) (k : Fin 1024) : EReal :=
  centred y k * Ideal.rsqrt (mean (fun l => centred y l * centred y l) + Ideal.ofBits .f32 0x3727C5AC#32) * g k + o k
def swish (x : EReal) : EReal := x * Ideal.logistic x

/-- Column `d` of the branch's output for a row `y` of mixed taps. -/
def branch (y g o : Fin 1024 → EReal) (w : Fin 1024 → Fin 2048 → EReal) (d : Fin 2048) : EReal :=
  ∑ k, swish (layerNorm y g o k) * w k d

/-- The taps of a block of 512 rows that 32 rows precede. -/
def mix (w : Fin 32 → Fin 1024 → EReal) (z : Fin 544 → Fin 1024 → EReal) (r : Fin 512) (c : Fin 1024) : EReal :=
  w 31 c + ∑ j : Fin 31, w ⟨j.val, by omega⟩ c * z ⟨r.val + j.val + 2, by omega⟩ c

/-- Column `128 s + q` of a row of 1024. -/
def lane (s : Fin 8) (q : Fin 128) : Fin 1024 := ⟨128 * s.val + q.val, by omega⟩

/-- The gated rows of a block with the gated rows before it, which the sequence's first block takes as zero. -/
def padded (start : Prop) [Decidable start] (a b : Fin 512 → Fin 1024 → EReal) (ah bh : Fin 32 → Fin 1024 → EReal)
    (p : Fin 544) (c : Fin 1024) : EReal :=
  if h : p.val < 32 then if start then 0 else glu (ah ⟨p.val, h⟩ c) (bh ⟨p.val, h⟩ c)
  else glu (a ⟨p.val - 32, by omega⟩ c) (b ⟨p.val - 32, by omega⟩ c)

/-- The taps' weights with the bias behind them. -/
def table (w : Fin 31 → Fin 1024 → EReal) (b : Fin 1024 → EReal) (j : Fin 32) (c : Fin 1024) : EReal :=
  if h : j.val < 31 then w ⟨j.val, h⟩ c else b c

/-- The row of a sequence of 8192 that a row's tap `j` reads, zero before the sequence's start. -/
def earlier (z : Fin 16384 → Fin 1024 → EReal) (q : Fin 16384) (j : Fin 31) (c : Fin 1024) : EReal :=
  if h : 30 ≤ q.val % 8192 + j.val then z ⟨q.val + j.val - 30, by omega⟩ c else 0

/-- A row's mixed taps. -/
def mixRow (w : Fin 31 → Fin 1024 → EReal) (b : Fin 1024 → EReal) (z : Fin 16384 → Fin 1024 → EReal) (q : Fin 16384) (c : Fin 1024) : EReal :=
  b c + ∑ j, w j c * earlier z q j c

/-- The taps of block `i` of sequence `b` are its rows' of the array. -/
theorem mix_block (w : Fin 31 → Fin 1024 → EReal) (v : Fin 1024 → EReal) (u x : Fin 16384 → Fin 1024 → EReal) (b : Fin 2) (i : Fin 16)
    (r : Fin 512) (c : Fin 1024) :
    mix (table w v) (padded (i.val = 0) (fun p => u ⟨(b.val * 16 + i.val) * 512 + p.val, by omega⟩) (fun p => x ⟨(b.val * 16 + i.val) * 512 + p.val, by omega⟩)
        (fun p => u ⟨(b.val * 256 + i.val * 16 - 1) * 32 + p.val, by omega⟩) (fun p => x ⟨(b.val * 256 + i.val * 16 - 1) * 32 + p.val, by omega⟩)) r c
      = mixRow w v (fun q c => glu (u q c) (x q c)) ⟨(b.val * 16 + i.val) * 512 + r.val, by omega⟩ c := by
  unfold mix mixRow
  congr 1
  refine Finset.sum_congr rfl fun j _ => ?_
  congr 1
  · unfold table; rw [dif_pos (show (⟨j.val, by omega⟩ : Fin 32).val < 31 from j.isLt)]
  · unfold padded earlier
    by_cases h : r.val + j.val + 2 < 32
    · rw [dif_pos (show (⟨r.val + j.val + 2, by omega⟩ : Fin 544).val < 32 from h)]
      by_cases e : i.val = 0
      · rw [if_pos e, dif_neg (by show ¬ 30 ≤ ((b.val * 16 + i.val) * 512 + r.val) % 8192 + j.val; omega)]
      · rw [if_neg e, dif_pos (by show 30 ≤ ((b.val * 16 + i.val) * 512 + r.val) % 8192 + j.val; omega)]
        have row : (⟨(b.val * 256 + i.val * 16 - 1) * 32 + (r.val + j.val + 2), by omega⟩ : Fin 16384)
            = ⟨(b.val * 16 + i.val) * 512 + r.val + j.val - 30, by omega⟩ := by rw [Fin.mk.injEq]; omega
        exact congrArg (fun q => glu (u q c) (x q c)) row
    · rw [dif_neg (show ¬ (⟨r.val + j.val + 2, by omega⟩ : Fin 544).val < 32 from h),
        dif_pos (by show 30 ≤ ((b.val * 16 + i.val) * 512 + r.val) % 8192 + j.val; omega)]
      have row : (⟨(b.val * 16 + i.val) * 512 + (r.val + j.val + 2 - 32), by omega⟩ : Fin 16384)
          = ⟨(b.val * 16 + i.val) * 512 + r.val + j.val - 30, by omega⟩ := by rw [Fin.mk.injEq]; omega
      exact congrArg (fun q => glu (u q c) (x q c)) row

end Cert.Branch
end
-- ==== Proof.Conv.Loop.lean ====
/-
The array of mixed taps after the loop over chunks of rows: the bias and the taps of each row and column. -/
module

public import proofs.«01_k».proof.Proof.Conv.Taps
public import proofs.«01_k».proof.Proof.Conv.Math
public import Idealize.ShloMosaic.Lib.Pipeline.Value
public import Idealize.ShloMosaic.Lib.Pipeline.ReadBack

@[expose] public section
set_option maxRecDepth 65536

noncomputable section
namespace Cert.ConvIdeal.Layer
open Cert.ConvIdeal Cert.ConvIdeal.Gen Cert.Branch
open Idealize.ShloMosaic Idealize.ShloMosaic.TcCoe Idealize.ShloMosaic.Tactic

variable (k : Fin k0_t1_loop.trips) (s g : Fin 8)
  (arg12 : Memref sig .tc .vmem S8x544x128 .f32) (arg13 : Memref sig .tc .vmem S32x8x1024 .f32)
  (X12 : BufTy.Contents (Elt Ideal) arg12.view.ty) (X13 : BufTy.Contents (Elt Ideal) arg13.view.ty)

theorem drop_at (f : FVec Ideal S1x8x128 .f32) (p : Fin 8) (q : Fin 128) :
    shapeCast S8x128 f shapeCasts_S1x8x128_S8x128 (ix2 p q) = f (ix3 0 p q) := by
  pointwise
theorem same_at (f : FVec Ideal S8x128 .f32) (p : Fin 8) (q : Fin 128) :
    shapeCast S8x128 f shapeCasts_S8x128_S8x128 (ix2 p q) = f (ix2 p q) := by
  pointwise

theorem rows_at (j : Fin 31) (p : Fin 8) (q : Fin 128) :
    rows k s g arg12 X12 j (ix2 p q)
      = arg12.view.read (Elt Ideal) X12 (ix3 s ⟨64 * k.val + 8 * g.val + p.val + j.val + 2, by have := trips_le k; omega⟩ q) := by
  unfold rows
  rw [drop_at, View.readAt_apply]
  congr 1
  funext a
  apply Fin.ext
  show loadOff s k (BitVec.ofNat 32 (8 * g.val)) (BitVec.ofNat 32 j.val) a + 1 * (ix3 (n0 := 1) 0 p q a).val = _
  rw [loadOff_eq]
  match a with
  | 0 => show s.val + 1 * 0 = s.val; omega
  | 1 => show 64 * k.val + 8 * g.val + j.val + 2 + 1 * p.val = 64 * k.val + 8 * g.val + p.val + j.val + 2; omega
  | 2 => show 0 + 1 * q.val = q.val; omega

theorem weights_at (j : Fin 32) (p : Fin 8) (q : Fin 128) :
    weights s arg13 X13 j (ix2 p q) = arg13.view.read (Elt Ideal) X13 (ix3 j p (lane s q)) := by
  unfold weights
  rw [drop_at, View.readAt_apply]
  congr 1
  funext a
  apply Fin.ext
  match a with
  | 0 => show j.val + 1 * 0 = j.val; omega
  | 1 => show 0 + 1 * p.val = p.val; omega
  | 2 => show 128 * s.val + 1 * q.val = 128 * s.val + q.val; omega

/-- The rows and columns a store covers. -/
theorem covered (y : S512x1024.Idx) (h0 : 64 * k.val + 8 * g.val ≤ (y 0).val) (h0' : (y 0).val < 64 * k.val + 8 * g.val + 8)
    (h1 : 128 * s.val ≤ (y 1).val) (h1' : (y 1).val < 128 * s.val + 128) : y ∈ (stored k s g arg12 arg13 X12 X13).1.set := by
  refine (Rect.mem_set_unit (inb := store_inb k s g)).mpr fun a => ?_
  rw [storeOff_eq]
  match a with
  | 0 => exact ⟨h0, h0'⟩
  | 1 => exact ⟨h1, h1'⟩

variable (w : Fin 32 → Fin 1024 → EReal) (z : Fin 544 → Fin 1024 → EReal)
  (h12 : ∀ s p q, arg12.view.read (Elt Ideal) X12 (ix3 s p q) = z p (lane s q))
  (h13 : ∀ j p d, arg13.view.read (Elt Ideal) X13 (ix3 j p d) = w j d)

include h12 h13 in
theorem taps_at (n : Nat) (h : n ≤ 31) (p : Fin 8) (q : Fin 128) :
    taps k s g arg12 arg13 X12 X13 n h (ix2 p q)
      = chain (w 31 (lane s q)) (fun j => w ⟨j.val, by omega⟩ (lane s q))
          (fun j => z ⟨64 * k.val + 8 * g.val + p.val + j.val + 2, by have := trips_le k; omega⟩ (lane s q)) n h := by
  induction n with
  | zero => rw [taps, weights_at, h13]; rfl
  | succ n ih =>
    rw [taps, chain, ← ih (Nat.le_of_succ_le h)]
    show taps k s g arg12 arg13 X12 X13 n _ (ix2 p q)
      + weights s arg13 X13 ⟨n, Nat.lt_succ_of_lt h⟩ (ix2 p q) * rows k s g arg12 X12 ⟨n, h⟩ (ix2 p q) = _
    rw [weights_at, rows_at, h12, h13]

/-- The taps of a block, by its index. -/
def mixed (y : S512x1024.Idx) : Elt Ideal .f32 := mix w z (y 0) (y 1)

include h12 h13 in
/-- What a trip stores is the taps of its rows and columns. -/
theorem stored_at (x : (stored k s g arg12 arg13 X12 X13).1.shape.Idx) :
    (stored k s g arg12 arg13 X12 X13).2 x = mixed w z ((stored k s g arg12 arg13 X12 X13).1.emb x) := by
  have hk := trips_le k
  obtain ⟨p, q, rfl⟩ : ∃ (p : Fin 8) (q : Fin 128), x = ix2 p q := ⟨x 0, x 1, by funext a; fin_cases a <;> rfl⟩
  have e0 : (stored k s g arg12 arg13 X12 X13).1.emb (ix2 p q) 0 = (⟨64 * k.val + 8 * g.val + p.val, by omega⟩ : Fin 512) := by
    apply Fin.ext
    show storeOff s k (BitVec.ofNat 32 (8 * g.val)) 0 + 1 * p.val = _
    rw [storeOff_eq]
    show 64 * k.val + 8 * g.val + 1 * p.val = _
    simp
  have e1 : (stored k s g arg12 arg13 X12 X13).1.emb (ix2 p q) 1 = lane s q := by
    apply Fin.ext
    show storeOff s k (BitVec.ofNat 32 (8 * g.val)) 1 + 1 * q.val = _
    rw [storeOff_eq]
    show 128 * s.val + 1 * q.val = 128 * s.val + q.val
    omega
  show shapeCast S8x128 (taps k s g arg12 arg13 X12 X13 31 _) _ (ix2 p q) = mix w z _ _
  rw [e0, e1, same_at, taps_at k s g arg12 arg13 X12 X13 w z h12 h13, chain_all]
  rfl

variable (𝒱 : Variants) (c : Dev nD) (bd : Option 𝒱.V) (i : grid0.Coords)
  (arg2 : Memref sig .tc .vmem S512x1024 .f32) (harg2 : arg2.IsWhole) (arg3 : Memref sig .tc .vmem S512x1024 .f32) (harg3 : arg3.IsWhole)
  (arg4 : Memref sig .tc .vmem S32x1024 .f32) (harg4 : arg4.IsWhole) (arg5 : Memref sig .tc .vmem S32x1024 .f32) (harg5 : arg5.IsWhole)
  (arg6 : Memref sig .tc .vmem S31x1024 .f32) (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S1024x2048 .bf16) (harg10 : arg10.IsWhole) (arg11 : Memref sig .tc .vmem S512x2048 .f32) (harg11 : arg11.IsWhole)
  (harg12 : arg12.IsWhole) (harg13 : arg13.IsWhole) (arg14 : Memref sig .tc .vmem S512x1024 .f32) (harg14 : arg14.IsWhole)
  (arg1 : BitVec 32) (v12 : FVec Ideal S32x1024 .f32) (v22 : FVec Ideal S512x1024 .f32) (v62 : FVec Ideal S1x512x128 .f32)

/-- The pieces the first `n` trips store. -/
def pieces (n : Nat) : List (View.Piece (Elt Ideal) S512x1024 .f32) :=
  pb_k0_t1 (F := Ideal) 𝒱 c bd i arg2 harg2 arg3 harg3 arg4 harg4 arg5 harg5 arg6 harg6 arg7 harg7 arg8 harg8 arg9 harg9 arg10 harg10
    arg11 harg11 arg12 harg12 arg13 harg13 arg14 harg14 arg1 v12 v22 v62 X12 X13 n

theorem mem_down : s ∈ down := by revert s; decide

theorem mem_pieces (n : Nat) (hn : n ≤ k0_t1_loop.trips) (P : View.Piece (Elt Ideal) S512x1024 .f32) :
    P ∈ pieces arg12 arg13 X12 X13 𝒱 c bd i arg2 harg2 arg3 harg3 arg4 harg4 arg5 harg5 arg6 harg6 arg7 harg7 arg8 harg8 arg9 harg9 arg10 harg10
        arg11 harg11 harg12 harg13 arg14 harg14 arg1 v12 v22 v62 n
      ↔ ∃ k : Fin k0_t1_loop.trips, k.val < n ∧ ∃ s g, P = stored k s g arg12 arg13 X12 X13 := by
  unfold pieces
  induction n with
  | zero =>
    rw [pb_k0_t1.eq_1]
    simp
  | succ n ih =>
    have h := pb_k0_t1_succ (F := Ideal) 𝒱 c bd i arg2 harg2 arg3 harg3 arg4 harg4 arg5 harg5 arg6 harg6 arg7 harg7 arg8 harg8 arg9 harg9 arg10 harg10
      arg11 harg11 arg12 harg12 arg13 harg13 arg14 harg14 arg1 v12 v22 v62 X12 X13 ⟨n, hn⟩
    dsimp only at h
    rw [h, trip_eq, List.mem_append, ih (Nat.le_of_succ_le hn)]
    simp only [List.mem_flatMap, List.mem_map]
    constructor
    · rintro (⟨s, _, g, _, rfl⟩ | ⟨k, hk, s, g, rfl⟩)
      · exact ⟨⟨n, hn⟩, Nat.lt_succ_self n, s, g, rfl⟩
      · exact ⟨k, Nat.lt_succ_of_lt hk, s, g, rfl⟩
    · rintro ⟨k, hk, s, g, rfl⟩
      rcases Nat.lt_succ_iff_lt_or_eq.mp hk with hk | hk
      · exact Or.inr ⟨k, hk, s, g, rfl⟩
      · obtain rfl : k = ⟨n, hn⟩ := Fin.ext hk
        exact Or.inl ⟨s, mem_down s, g, mem_down g, rfl⟩

include h12 h13 in
/-- After all the trips the array holds the taps of every row and column. -/
theorem mixed_at :
    View.canon (pieces arg12 arg13 X12 X13 𝒱 c bd i arg2 harg2 arg3 harg3 arg4 harg4 arg5 harg5 arg6 harg6 arg7 harg7 arg8 harg8 arg9 harg9 arg10 harg10
        arg11 harg11 harg12 harg13 arg14 harg14 arg1 v12 v22 v62 k0_t1_loop.trips)
      = mixed w z := by
  funext y
  refine View.canon_apply_of_pieces (mixed w z) _ ?_ y ?_
  · intro P hP
    obtain ⟨k, _, s, g, rfl⟩ := (mem_pieces arg12 arg13 X12 X13 𝒱 c bd i arg2 harg2 arg3 harg3 arg4 harg4 arg5 harg5 arg6 harg6 arg7 harg7 arg8 harg8
      arg9 harg9 arg10 harg10 arg11 harg11 harg12 harg13 arg14 harg14 arg1 v12 v22 v62 _ (Nat.le_refl _) P).mp hP
    exact stored_at k s g arg12 arg13 X12 X13 w z h12 h13
  · have h0 : (y 0).val < 512 := (y 0).isLt
    have h1 : (y 1).val < 1024 := (y 1).isLt
    have ht : k0_t1_loop.trips = 8 := by decide
    refine ⟨stored (F := Ideal) ⟨(y 0).val / 64, by omega⟩ ⟨(y 1).val / 128, by omega⟩ ⟨(y 0).val % 64 / 8, by omega⟩ arg12 arg13 X12 X13,
      (mem_pieces arg12 arg13 X12 X13 𝒱 c bd i arg2 harg2 arg3 harg3 arg4 harg4 arg5 harg5 arg6 harg6 arg7 harg7 arg8 harg8
        arg9 harg9 arg10 harg10 arg11 harg11 harg12 harg13 arg14 harg14 arg1 v12 v22 v62 _ (Nat.le_refl _) _).mpr ⟨_, Fin.isLt _, _, _, rfl⟩, ?_⟩
    exact covered _ _ _ arg12 arg13 X12 X13 y (by show 64 * ((y 0).val / 64) + 8 * ((y 0).val % 64 / 8) ≤ _; omega)
      (by show _ < 64 * ((y 0).val / 64) + 8 * ((y 0).val % 64 / 8) + 8; omega) (by show 128 * ((y 1).val / 128) ≤ _; omega)
      (by show _ < 128 * ((y 1).val / 128) + 128; omega)

end Cert.ConvIdeal.Layer
end
-- ==== Proof.Conv.Kernel.lean ====
/-
The block one grid point of the convolution branch stores. The first point of each sequence fills the scratch of weights,
which the fifteen points after it find there; every point fills the scratch of gated rows and takes the taps from both.
-/
module

public import proofs.«01_k».proof.Proof.Gen.ConvIdeal.Value
public import proofs.«01_k».proof.Proof.Conv.Loop
public import Idealize.ShloMosaic.Lib.Pipeline.ValueKit

@[expose] public section
set_option maxRecDepth 65536

noncomputable section
namespace Cert.ConvIdeal.Layer
open Cert.ConvIdeal Cert.ConvIdeal.Gen Cert.Attn Cert.Branch
open Idealize.ShloMosaic Idealize.ShloMosaic.TcCoe Idealize.ShloMosaic.Tactic

/-- The gated block. -/
theorem gated_at (a b : FVec Ideal S512x1024 .f32) (r : Fin 512) (d : Fin 1024) :
    k0_pay2395 (F := Ideal) a b (ix2 r d) = glu (a (ix2 r d)) (b (ix2 r d)) := by
  pointwise [k0_pay2395]; rw [half_tanh]; rfl

/-- The gated rows before the block, zero at the start of a sequence. -/
theorem before_at (i : grid0.Coords) (a b : FVec Ideal S32x1024 .f32) (r : Fin 32) (d : Fin 1024) :
    k0_pay2394 (F := Ideal) i a b (ix2 r d) = if (i 1).val = 0 then 0 else glu (a (ix2 r d)) (b (ix2 r d)) := by
  pointwise [k0_pay2394]
  have h : (i 1).val < 16 := (i 1).isLt
  have e : Scalar.cmpi .eq (BitVec.ofNat 32 (i 1).val) 0#32 = if (i 1).val = 0 then 1#1 else 0#1 := by
    generalize (i 1).val = n at h; revert n; decide
  rw [e, half_tanh]
  split <;> rfl

theorem before_inb (s : Fin 8) (a : Fin 3) : (![s.val, 0, 0] : Fin 3 → Nat) a + S1x32x128.size a ≤ S8x544x128.size a :=
  match a with
  | 0 => by show s.val + 1 ≤ 8; omega
  | 1 => by show 0 + 32 ≤ 544; omega
  | 2 => by show 0 + 128 ≤ 128; omega
theorem block_inb (s : Fin 8) (a : Fin 3) : (![s.val, 32, 0] : Fin 3 → Nat) a + S1x512x128.size a ≤ S8x544x128.size a :=
  match a with
  | 0 => by show s.val + 1 ≤ 8; omega
  | 1 => by show 32 + 512 ≤ 544; omega
  | 2 => by show 0 + 128 ≤ 128; omega

theorem before_slices (s : Fin 8) : S32x1024.Slices ![0, 128 * s.val] S32x128 := by revert s; decide
theorem block_slices (s : Fin 8) : S512x1024.Slices ![0, 128 * s.val] S512x128 := by revert s; decide
theorem row_inb (j : Fin 31) (a : Fin 2) : (![j.val, 0] : Fin 2 → Nat) a + S1x1024.size a ≤ S31x1024.size a :=
  match a with
  | 0 => by show j.val + 1 ≤ 31; omega
  | 1 => by show 0 + 1024 ≤ 1024; omega
theorem table_inb (j : Fin 32) (a : Fin 3) : (![j.val, 0, 0] : Fin 3 → Nat) a + S1x8x1024.size a ≤ S32x8x1024.size a :=
  match a with
  | 0 => by show j.val + 1 ≤ 32; omega
  | 1 => by show 0 + 8 ≤ 8; omega
  | 2 => by show 0 + 1024 ≤ 1024; omega

/-- What a point stores into the scratch of gated rows for one slab. -/
def blockPiece (b : FVec Ideal S512x1024 .f32) (s : Fin 8) : View.Piece (Elt Ideal) S8x544x128 .f32 :=
  ⟨Rect.unit (s := S8x544x128) ![s.val, 32, 0] S1x512x128.size (block_inb s),
   shapeCast S1x512x128 (extractStridedSlice S512x128 ![0, 128 * s.val] b (block_slices s)) shapeCasts_S512x128_S1x512x128⟩
def beforePiece (h : FVec Ideal S32x1024 .f32) (s : Fin 8) : View.Piece (Elt Ideal) S8x544x128 .f32 :=
  ⟨Rect.unit (s := S8x544x128) ![s.val, 0, 0] S1x32x128.size (before_inb s),
   shapeCast S1x32x128 (extractStridedSlice S32x128 ![0, 128 * s.val] h (before_slices s)) shapeCasts_S32x128_S1x32x128⟩
def fill (h : FVec Ideal S32x1024 .f32) (b : FVec Ideal S512x1024 .f32) : List (View.Piece (Elt Ideal) S8x544x128 .f32) :=
  down.flatMap fun s => [blockPiece b s, beforePiece h s]

def downTaps : List (Fin 31) :=
  [30, 29, 28, 27, 26, 25, 24, 23, 22, 21, 20, 19, 18, 17, 16, 15, 14, 13, 12, 11, 10, 9, 8, 7, 6, 5, 4, 3, 2, 1, 0]

/-- One row of weights, and the pieces of the scratch of weights. -/
def rowOf (w : FVec Ideal S31x1024 .f32) (j : Fin 31) : FVec Ideal S1x1024 .f32 :=
  View.ld (Val := Elt Ideal) (e' := .f32) w (Rect.unit (s := S31x1024) ![j.val, 0] S1x1024.size (row_inb j))
def tablePiece (w : FVec Ideal S1x1024 .f32) (j : Fin 32) : View.Piece (Elt Ideal) S32x8x1024 .f32 :=
  ⟨Rect.unit (s := S32x8x1024) ![j.val, 0, 0] S1x8x1024.size (table_inb j),
   shapeCast S1x8x1024 (broadcastTo S8x1024 (shapeCast S1x1024 w shapeCasts_S1x1024_S1x1024) broadcasts_S1x1024_S8x1024) shapeCasts_S8x1024_S1x8x1024⟩
def tableFill (w : FVec Ideal S31x1024 .f32) (b : FVec Ideal S1x1024 .f32) : List (View.Piece (Elt Ideal) S32x8x1024 .f32) :=
  tablePiece (shapeCast S1x1024 b shapeCasts_S1x1024_S1x1024) 31 :: downTaps.map fun j => tablePiece (rowOf w j) (j.castSucc)

variable (m : (ℓ : Loc nD τ sig) → Buf (Elt Ideal) ℓ) (c : Dev nD)

/-- The gated rows a point fills its scratch with. -/
def filled (t : Fin cfg0.N) : List (View.Piece (Elt Ideal) S8x544x128 .f32) :=
  fill (k0_pay2394 (grid0.coords t) (iblk m c 2 t) (iblk m c 3 t)) (k0_pay2395 (iblk m c 0 t) (iblk m c 1 t))

/-- The mixed taps over the scratch contents. -/
def taken (t : Fin cfg0.N) (X13 : BufTy.Contents (Elt Ideal) (scM0_1).view.ty) : FVec Ideal S512x1024 .f32 :=
  View.canon (pieces scM0_0 scM0_1 ((View.whole cc0_scratch0).writes (Elt Ideal) (View.whole cc0_scratch0).junk (filled m c t)) X13
    Variants.none c none (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (Memref.isWhole_whole _) (Memref.isWhole_whole _) scM0_2 (Memref.isWhole_whole _)
    (BitVec.ofNat 32 (grid0.coords t 1)) (k0_pay2394 (grid0.coords t) (iblk m c 2 t) (iblk m c 3 t))
    (k0_pay2395 (iblk m c 0 t) (iblk m c 1 t)) (k0_pay2406 (k0_pay2395 (iblk m c 0 t) (iblk m c 1 t))) k0_t1_loop.trips)

/-- A load of the whole array of mixed taps. -/
theorem whole_read (L : List (View.Piece (Elt Ideal) S512x1024 .f32)) :
    (View.whole cc0_scratch2).readCov L (Rect.unit (s := S512x1024) ![0, 0] ![512, 1024] inb_S512x1024_S512x1024_0_0).toLoadRect = View.canon L := by
  rw [View.readCov_eq_canon']
  funext j
  congr 1
  funext a
  apply Fin.ext
  match a with
  | 0 => show 0 + 1 * (j 0).val = (j 0).val; omega
  | 1 => show 0 + 1 * (j 1).val = (j 1).val; omega

theorem first (t : Fin cfg0.N) (h : t.val % 16 = 0) :
    (outsAt0 m c t.val t.isLt).1 = k0_pay2419 (F := Ideal)
      (taken m c t ((View.whole cc0_scratch1).writes (Elt Ideal) (View.whole cc0_scratch1).junk (tableFill (iblk m c 4 t) (iblk m c 5 t))))
      (iblk m c 6 t) (iblk m c 7 t) (iblk m c 8 t) := by
  rw [outsAt0_A m c t h]
  dsimp only
  frame_out
  rw [whole_read]
  rfl

theorem firstKept (t : Fin cfg0.N) (h : t.val % 16 = 0) :
    (outsAt0 m c t.val t.isLt).2 = View.canon (tableFill (iblk m c 4 t) (iblk m c 5 t)) := by
  rw [outsAt0_A m c t h]
  dsimp only
  frame_out
  exact congrArg View.canon rfl

theorem later (t : Fin cfg0.N) (h : ¬t.val % 16 = 0) :
    (outsAt0 m c t.val t.isLt).1 = k0_pay2419 (F := Ideal)
      (taken m c t ((Memref.isWhole_whole cc0_scratch1).unread (outsAt0 m c (t.val - 1) (Nat.lt_of_le_of_lt (Nat.sub_le _ _) t.isLt)).2))
      (iblk m c 6 t) (iblk m c 7 t) (iblk m c 8 t) := by
  rw [outsAt0_B m c t h]
  dsimp only
  generalize outsAt0 m c (t.val - 1) _ = V
  frame_out
  rw [whole_read]
  rfl

theorem laterKept (t : Fin cfg0.N) (h : ¬t.val % 16 = 0) :
    (outsAt0 m c t.val t.isLt).2 = (outsAt0 m c (t.val - 1) (Nat.lt_of_le_of_lt (Nat.sub_le _ _) t.isLt)).2 := by
  rw [outsAt0_B m c t h]
  dsimp only
  generalize outsAt0 m c (t.val - 1) _ = V
  unfold sout0_B_1
  frame_out

end Cert.ConvIdeal.Layer
end
-- ==== Proof.Conv.Held.lean ====
/-
What the scratches of the convolution branch hold, and the block a point stores, read by coordinates.
-/
module

public import proofs.«01_k».proof.Proof.Conv.Kernel

@[expose] public section
set_option maxRecDepth 65536

noncomputable section
namespace Cert.ConvIdeal.Layer
open Cert.ConvIdeal Cert.ConvIdeal.Gen Cert.Attn Cert.Branch
open Idealize.ShloMosaic Idealize.ShloMosaic.TcCoe Idealize.ShloMosaic.Tactic

section fills
variable (h : FVec Ideal S32x1024 .f32) (b : FVec Ideal S512x1024 .f32) (s : Fin 8)

theorem blockPiece_at (p : Fin 512) (q : Fin 128) : (blockPiece b s).2 (ix3 (n0 := 1) 0 p q) = b (ix2 p (lane s q)) := by
  unfold blockPiece lane
  pointwise
theorem beforePiece_at (p : Fin 32) (q : Fin 128) : (beforePiece h s).2 (ix3 (n0 := 1) 0 p q) = h (ix2 p (lane s q)) := by
  unfold beforePiece lane
  pointwise

theorem blockPiece_emb (p : Fin 512) (q : Fin 128) : (blockPiece b s).1.emb (ix3 (n0 := 1) 0 p q) = ix3 s (⟨32 + p.val, by omega⟩ : Fin 544) q := by
  funext a
  apply Fin.ext
  match a with
  | 0 => show s.val + 1 * 0 = s.val; omega
  | 1 => show 32 + 1 * p.val = 32 + p.val; omega
  | 2 => show 0 + 1 * q.val = q.val; omega
theorem beforePiece_emb (p : Fin 32) (q : Fin 128) : (beforePiece h s).1.emb (ix3 (n0 := 1) 0 p q) = ix3 s (⟨p.val, by omega⟩ : Fin 544) q := by
  funext a
  apply Fin.ext
  match a with
  | 0 => show s.val + 1 * 0 = s.val; omega
  | 1 => show 0 + 1 * p.val = p.val; omega
  | 2 => show 0 + 1 * q.val = q.val; omega

/-- The gated rows behind those before them. -/
def joined (y : S8x544x128.Idx) : Elt Ideal .f32 :=
  if e : (y 1).val < 32 then h (ix2 ⟨(y 1).val, e⟩ (lane (y 0) (y 2)))
  else b (ix2 ⟨(y 1).val - 32, by have : (y 1).val < 544 := (y 1).isLt; omega⟩ (lane (y 0) (y 2)))

theorem fill_at : View.canon (fill h b) = joined h b := by
  funext y
  refine View.canon_apply_of_pieces (joined h b) _ ?_ y ?_
  · intro P hP
    simp only [fill, List.mem_flatMap, List.mem_cons, List.not_mem_nil, or_false] at hP
    obtain ⟨s, _, rfl | rfl⟩ := hP
    · intro x
      obtain ⟨p, q, rfl⟩ : ∃ (p : Fin 512) (q : Fin 128), x = ix3 (n0 := 1) 0 p q :=
        ⟨x 1, x 2, by funext a; fin_cases a; exact Subsingleton.elim (α := Fin 1) _ _; rfl; rfl⟩
      rw [blockPiece_at, blockPiece_emb]
      unfold joined
      rw [dif_neg (by show ¬ 32 + p.val < 32; omega)]
      congr 2
      apply Fin.ext
      show p.val = 32 + p.val - 32
      omega
    · intro x
      obtain ⟨p, q, rfl⟩ : ∃ (p : Fin 32) (q : Fin 128), x = ix3 (n0 := 1) 0 p q :=
        ⟨x 1, x 2, by funext a; fin_cases a; exact Subsingleton.elim (α := Fin 1) _ _; rfl; rfl⟩
      rw [beforePiece_at, beforePiece_emb]
      unfold joined
      rw [dif_pos (by show p.val < 32; omega)]
      rfl
  · have h0 : (y 0).val < 8 := (y 0).isLt
    have h1 : (y 1).val < 544 := (y 1).isLt
    have h2 : (y 2).val < 128 := (y 2).isLt
    by_cases e : (y 1).val < 32
    · refine ⟨beforePiece h (y 0), by simp only [fill, List.mem_flatMap]; exact ⟨y 0, mem_down _, by simp⟩, (Rect.mem_set_unit (inb := before_inb (y 0))).mpr fun a => ?_⟩
      match a with
      | 0 => show (y 0).val ≤ (y 0).val ∧ (y 0).val < (y 0).val + 1; omega
      | 1 => show 0 ≤ (y 1).val ∧ (y 1).val < 0 + 32; omega
      | 2 => show 0 ≤ (y 2).val ∧ (y 2).val < 0 + 128; omega
    · refine ⟨blockPiece b (y 0), by simp only [fill, List.mem_flatMap]; exact ⟨y 0, mem_down _, by simp⟩, (Rect.mem_set_unit (inb := block_inb (y 0))).mpr fun a => ?_⟩
      match a with
      | 0 => show (y 0).val ≤ (y 0).val ∧ (y 0).val < (y 0).val + 1; omega
      | 1 => show 32 ≤ (y 1).val ∧ (y 1).val < 32 + 512; omega
      | 2 => show 0 ≤ (y 2).val ∧ (y 2).val < 0 + 128; omega

variable (w : FVec Ideal S31x1024 .f32) (v : FVec Ideal S1x1024 .f32)

theorem rowOf_at (j : Fin 31) (d : Fin 1024) : rowOf w j (ix2 0 d) = w (ix2 j d) := by
  unfold rowOf; pointwise
theorem again_at (d : Fin 1024) : shapeCast S1x1024 v shapeCasts_S1x1024_S1x1024 (ix2 0 d) = v (ix2 0 d) := by
  pointwise
theorem tablePiece_at (j : Fin 32) (p : Fin 8) (d : Fin 1024) : (tablePiece v j).2 (ix3 (n0 := 1) 0 p d) = v (ix2 0 d) := by
  unfold tablePiece
  pointwise
theorem tablePiece_emb (j : Fin 32) (p : Fin 8) (d : Fin 1024) : (tablePiece v j).1.emb (ix3 (n0 := 1) 0 p d) = ix3 j p d := by
  funext a
  apply Fin.ext
  match a with
  | 0 => show j.val + 1 * 0 = j.val; omega
  | 1 => show 0 + 1 * p.val = p.val; omega
  | 2 => show 0 + 1 * d.val = d.val; omega

/-- The scratch of weights: the taps' rows and the bias. -/
def tabled (y : S32x8x1024.Idx) : Elt Ideal .f32 := table (fun j d => w (ix2 j d)) (fun d => v (ix2 0 d)) (y 0) (y 2)

theorem mem_downTaps (j : Fin 31) : j ∈ downTaps := by revert j; decide

theorem tableFill_at : View.canon (tableFill w v) = tabled w v := by
  funext y
  refine View.canon_apply_of_pieces (tabled w v) _ ?_ y ?_
  · intro P hP
    simp only [tableFill, List.mem_map, List.mem_cons] at hP
    have agree : ∀ (j : Fin 32) (u : FVec Ideal S1x1024 .f32),
        (∀ d, u (ix2 0 d) = table (fun j d => w (ix2 j d)) (fun d => v (ix2 0 d)) j d) →
        ∀ x, (tablePiece u j).2 x = tabled w v ((tablePiece u j).1.emb x) := by
      intro j u hu x
      obtain ⟨p, d, rfl⟩ : ∃ (p : Fin 8) (d : Fin 1024), x = ix3 (n0 := 1) 0 p d :=
        ⟨x 1, x 2, by funext a; fin_cases a; exact Subsingleton.elim (α := Fin 1) _ _; rfl; rfl⟩
      rw [tablePiece_at, tablePiece_emb, hu]
      rfl
    obtain rfl | ⟨j, _, rfl⟩ := hP
    · exact agree 31 _ fun d => by rw [again_at]; rfl
    · exact agree j.castSucc _ fun d => by rw [rowOf_at, table, dif_pos (show j.castSucc.val < 31 from j.isLt)]; rfl
  · have h0 : (y 0).val < 32 := (y 0).isLt
    have h1 : (y 1).val < 8 := (y 1).isLt
    have h2 : (y 2).val < 1024 := (y 2).isLt
    have inside : ∀ u : FVec Ideal S1x1024 .f32, y ∈ (tablePiece u (y 0)).1.set := fun u =>
      (Rect.mem_set_unit (inb := table_inb (y 0))).mpr fun a => by
        match a with
        | 0 => show (y 0).val ≤ (y 0).val ∧ (y 0).val < (y 0).val + 1; omega
        | 1 => show 0 ≤ (y 1).val ∧ (y 1).val < 0 + 8; omega
        | 2 => show 0 ≤ (y 2).val ∧ (y 2).val < 0 + 1024; omega
    by_cases e : (y 0).val < 31
    · exact ⟨tablePiece (rowOf w ⟨(y 0).val, e⟩) (y 0), List.mem_cons_of_mem _ (List.mem_map.mpr ⟨⟨(y 0).val, e⟩, mem_downTaps _, rfl⟩), inside _⟩
    · have e' : y 0 = (31 : Fin 32) := Fin.ext (by show (y 0).val = 31; omega)
      exact ⟨tablePiece (shapeCast S1x1024 v shapeCasts_S1x1024_S1x1024) (y 0), by rw [e']; exact List.mem_cons_self .., inside _⟩

end fills

/-- The normed taps through the output weights. -/
theorem product_at (y : FVec Ideal S512x1024 .f32) (g o : FVec Ideal S1x1024 .f32) (w : FVec Ideal S1024x2048 .bf16) (r : Fin 512) (d : Fin 2048) :
    k0_pay2419 (F := Ideal) y g o w (ix2 r d)
      = branch (fun k => y (ix2 r k)) (fun k => g (ix2 0 k)) (fun k => o (ix2 0 k)) (fun k d => w (ix2 k d)) d := by
  pointwise [k0_pay2419]
  simp only [half_tanh]
  rfl

end Cert.ConvIdeal.Layer
end
-- ==== Proof.Conv.Block.lean ====
/-
The block a point of the convolution branch stores, by coordinates: the branch of the mixed taps of its rows.
-/
module

public import proofs.«01_k».proof.Proof.Conv.Held

@[expose] public section
set_option maxRecDepth 65536

noncomputable section
namespace Cert.ConvIdeal.Layer
open Cert.ConvIdeal Cert.ConvIdeal.Gen Cert.Attn Cert.Branch
open Idealize.ShloMosaic Idealize.ShloMosaic.TcCoe Idealize.ShloMosaic.Tactic

variable (m : (ℓ : Loc nD τ sig) → Buf (Elt Ideal) ℓ) (c : Dev nD)

/-- The region's first point. -/
def origin : Fin cfg0.N := ⟨0, by decide⟩

/-- Every point leaves the taps' weights and the bias in the scratch of weights. -/
theorem kept (hw : ∀ t, iblk m c 4 t = iblk m c 4 origin) (hb : ∀ t, iblk m c 5 t = iblk m c 5 origin) (n : Nat) (h : n < cfg0.N) :
    (outsAt0 m c n h).2 = tabled (iblk m c 4 origin) (iblk m c 5 origin) := by
  induction n with
  | zero => exact (firstKept m c origin rfl).trans (tableFill_at _ _)
  | succ n ih =>
    by_cases h0 : (n + 1) % 16 = 0
    · refine (firstKept m c ⟨n + 1, h⟩ h0).trans ?_
      rw [tableFill_at, hw, hb]
    · exact (laterKept m c ⟨n + 1, h⟩ h0).trans (ih _)

/-- The gated rows a point finds in its scratch. -/
def rowsAt (t : Fin cfg0.N) : Fin 544 → Fin 1024 → EReal :=
  padded ((grid0.coords t 1).val = 0) (fun r d => iblk m c 0 t (ix2 r d)) (fun r d => iblk m c 1 t (ix2 r d))
    (fun r d => iblk m c 2 t (ix2 r d)) (fun r d => iblk m c 3 t (ix2 r d))

/-- The weights a point finds in its scratch. -/
def weightsAt (t : Fin cfg0.N) : Fin 32 → Fin 1024 → EReal :=
  table (fun j d => iblk m c 4 t (ix2 j d)) (fun d => iblk m c 5 t (ix2 0 d))

theorem filled_at (t : Fin cfg0.N) (s : Fin 8) (p : Fin 544) (q : Fin 128) :
    View.canon (filled m c t) (ix3 s p q) = rowsAt m c t p (lane s q) := by
  unfold filled
  rw [fill_at]
  unfold joined rowsAt padded
  by_cases h : p.val < 32
  · rw [dif_pos h, dif_pos (show ((ix3 s p q : S8x544x128.Idx) 1).val < 32 from h)]
    exact before_at _ _ _ _ _
  · rw [dif_neg h, dif_neg (show ¬ ((ix3 s p q : S8x544x128.Idx) 1).val < 32 from h)]
    exact gated_at _ _ _ _

theorem taken_at (t : Fin cfg0.N) (X13 : BufTy.Contents (Elt Ideal) (scM0_1).view.ty) (w : Fin 32 → Fin 1024 → EReal)
    (h : ∀ j p d, scM0_1.view.read (Elt Ideal) X13 (ix3 j p d) = w j d) :
    taken m c t X13 = mixed w (rowsAt m c t) := by
  unfold taken
  refine mixed_at _ _ _ _ w (rowsAt m c t) (fun s p q => ?_) h _ _ _ _ _ _ _ _ _ _ _ _ _ _ _ _ _ _ _ _ _ _ _ _ _ _ _ _ _ _ _ _
  refine Eq.trans ?_ (filled_at m c t s p q)
  exact congrFun (View.read_writes_junk_eq_canon _ _) _

/-- Every point stores the branch of its rows' mixed taps. -/
theorem stored_block (hw : ∀ t, iblk m c 4 t = iblk m c 4 origin) (hb : ∀ t, iblk m c 5 t = iblk m c 5 origin) (t : Fin cfg0.N)
    (r : Fin 512) (d : Fin 2048) :
    (outsAt0 m c t.val t.isLt).1 (ix2 r d)
      = branch (mix (weightsAt m c t) (rowsAt m c t) r) (fun k => iblk m c 6 t (ix2 0 k)) (fun k => iblk m c 7 t (ix2 0 k))
          (fun k d => iblk m c 8 t (ix2 k d)) d := by
  by_cases h0 : t.val % 16 = 0
  · rw [first m c t h0, product_at, taken_at m c t _ (weightsAt m c t) fun j p d => ?_]
    · rfl
    · refine (congrFun (View.read_writes_junk_eq_canon _ _) _).trans ?_
      rw [tableFill_at]
      rfl
  · rw [later m c t h0, product_at, taken_at m c t _ (weightsAt m c t) fun j p d => ?_]
    · rfl
    · refine (congrFun (read_unread_whole _ _ _) _).trans ?_
      rw [kept m c hw hb]
      unfold weightsAt
      rw [hw t, hb t]
      rfl

end Cert.ConvIdeal.Layer
end
-- ==== Proof.Conv.Reference.lean ====
/-
The reference of the convolution branch in stages, each read at an index: the branch of every row.
-/
module

public import proofs.«01_k».proof.Proof.Gen.ConvRefIdeal.Run
public import proofs.«01_k».proof.Proof.Conv.Math
public import proofs.«01_k».proof.Proof.Value.Math

@[expose] public section
set_option maxRecDepth 16384

noncomputable section
namespace Cert.ConvRefIdeal.Layer
open Cert.ConvRefIdeal Cert.ConvRefIdeal.Gen Cert.Attn Cert.Branch
open Idealize.ShloMosaic Idealize.ShloMosaic.TcCoe Idealize.ShloMosaic.Tactic

/-- The branch's columns of the projection, by sequence. -/
def columns (p : FVec Ideal S16384x3072 .f32) : FVec Ideal S2x8192x2048 .f32 :=
  shapeCast _ (extractStridedSlice S16384x2048 ![0, 1024] p slices_S16384x3072_S16384x2048_0_1024) shapeCasts_S16384x2048_S2x8192x2048

/-- The gated rows. -/
def gated (v : FVec Ideal S2x8192x2048 .f32) : FVec Ideal S2x8192x1024 .f32 :=
  mulf (extractStridedSlice S2x8192x1024 ![0, 0, 0] v slices_S2x8192x2048_S2x8192x1024_0_0_0)
    (Host.divf (broadcastInDim S2x8192x1024 ![] bcast_S_S2x8192x1024 (constant S_ .f32 0x3F800000#32))
      (addf (broadcastInDim S2x8192x1024 ![] bcast_S_S2x8192x1024 (constant S_ .f32 0x3F800000#32))
        (Host.exp (Host.negf (extractStridedSlice S2x8192x1024 ![0, 0, 1024] v slices_S2x8192x2048_S2x8192x1024_0_0_1024)))))

/-- The gated rows with thirty rows of zero before each sequence. -/
def past (z : FVec Ideal S2x8192x1024 .f32) : FVec Ideal S2x8222x1024 .f32 :=
  pad S2x8222x1024 ![0, 30, 0] ![0, 0, 0] ![0, 0, 0] z (sitofp .f32 (constantI S_ 32 0#32)) pads_S2x8192x1024_S2x8222x1024_000_3000_000 h_S_

theorem slides (j : Fin 31) : S2x8222x1024.Slices ![0, j.val, 0] S2x8192x1024 := by revert j; decide
theorem row_slices (j : Fin 31) : S31x1024.Slices ![j.val, 0] S1x1024 := by revert j; decide

/-- A vector along the rows of both sequences. -/
def along (b : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 b)

/-- One tap, and the first `n` of them added up. -/
def tap (z : FVec Ideal S2x8222x1024 .f32) (w : FVec Ideal S31x1024 .f32) (j : Fin 31) : FVec Ideal S2x8192x1024 .f32 :=
  mulf (extractStridedSlice S2x8192x1024 ![0, j.val, 0] z (slides j))
    (along (shapeCast _ (extractStridedSlice S1x1024 ![j.val, 0] w (row_slices j)) shapeCasts_S1x1024_S1024))
def summed (z : FVec Ideal S2x8222x1024 .f32) (w : FVec Ideal S31x1024 .f32) : (n : Nat) → n ≤ 31 → FVec Ideal S2x8192x1024 .f32
  | 0, _ => broadcastInDim S2x8192x1024 ![] bcast_S_S2x8192x1024 (constant S_ .f32 0x00000000#32)
  | n + 1, h => addf (summed z w n (Nat.le_of_succ_le h)) (tap z w ⟨n, h⟩)

/-- The mean of every row, the rows less it, and the rows normed. -/
def means (y : FVec Ideal S2x8192x1024 .f32) : FVec Ideal S2x8192x1 .f32 :=
  Host.divf (broadcastInDim S2x8192x1 ![0, 1] bcast_S2x8192_S2x8192x1_0_1
    (Host.reduceAdd y (constant S_ .f32 0x00000000#32) reducesTo_S2x8192x1024_S2x8192_d2 h_S_))
    (broadcastInDim S2x8192x1 ![] bcast_S_S2x8192x1 (constant S_ .f32 0x44800000#32))
def less (y : FVec Ideal S2x8192x1024 .f32) : FVec Ideal S2x8192x1024 .f32 :=
  subf y (broadcastInDim S2x8192x1024 ![0, 1, 2] bcast_S2x8192x1_S2x8192x1024_0_1_2 (means y))
def normed (y : FVec Ideal S2x8192x1024 .f32) (g o : FVec Ideal S1024 .f32) : FVec Ideal S2x8192x1024 .f32 :=
  addf (mulf (mulf (less y) (broadcastInDim S2x8192x1024 ![0, 1, 2] bcast_S2x8192x1_S2x8192x1024_0_1_2
    (Host.rsqrt (addf (means (mulf (less y) (less y))) (broadcastInDim S2x8192x1 ![] bcast_S_S2x8192x1 (constant S_ .f32 0x3727C5AC#32)))))) (along g)) (along o)

/-- The normed rows by their logistic, through the output weights. -/
def outputs (n : FVec Ideal S2x8192x1024 .f32) (w : FVec Ideal S1024x2048 .f32) : FVec Ideal S16384x2048 .f32 :=
  shapeCast _ (Host.dotGeneral dot_S2x8192x1024_S1024x2048_S2x8192x2048_2_0_01_1_n_n none
    (mulf n (Host.divf (broadcastInDim S2x8192x1024 ![] bcast_S_S2x8192x1024 (constant S_ .f32 0x3F800000#32))
      (addf (broadcastInDim S2x8192x1024 ![] bcast_S_S2x8192x1024 (constant S_ .f32 0x3F800000#32)) (Host.exp (Host.negf n))))) w)
    shapeCasts_S2x8192x2048_S16384x2048

/-- The taps and the bias. -/
def mixes (p : FVec Ideal S16384x3072 .f32) (w : FVec Ideal S31x1024 .f32) (b : FVec Ideal S1024 .f32) : FVec Ideal S2x8192x1024 .f32 :=
  addf (summed (past (gated (columns p))) w 31 (Nat.le_refl _)) (along b)

/-- The whole reference. -/
def conv (p : FVec Ideal S16384x3072 .f32) (w : FVec Ideal S31x1024 .f32) (b g o : FVec Ideal S1024 .f32) (wo : FVec Ideal S1024x2048 .f32) :
    FVec Ideal S16384x2048 .f32 :=
  outputs (normed (mixes p w b) g o) wo

theorem columns_at (p) (b : Fin 2) (r : Fin 8192) (k : Fin 2048) :
    columns p (ix3 b r k) = p (ix2 ⟨b.val * 8192 + r.val, by omega⟩ ⟨1024 + k.val, by omega⟩) := by
  pointwise [columns]

theorem gated_at (v) (b : Fin 2) (r : Fin 8192) (k : Fin 1024) :
    gated v (ix3 b r k) = glu (v (ix3 b r ⟨k.val, by omega⟩)) (v (ix3 b r ⟨1024 + k.val, by omega⟩)) := by
  pointwise [gated]; rfl

theorem past_at (z) (b : Fin 2) (r : Fin 8222) (k : Fin 1024) :
    past z (ix3 b r k) = if h : 30 ≤ r.val then z (ix3 b ⟨r.val - 30, by omega⟩ k) else 0 := by
  pointwise [past]
  have zero : FloatOps.sitofp (F := Ideal) .f32 (0#32) = 0 := by
    show ((((0#32 : BitVec 32).toInt : ℤ) : ℝ) : EReal) = 0
    simp
  have near : r.val - 30 < 8192 := by omega
  simp only [near, and_true, zero]

theorem along_at (v) (b : Fin 2) (r : Fin 8192) (k : Fin 1024) : along v (ix3 b r k) = v (ix1 k) := by
  pointwise [along]

theorem tap_at (z w) (j : Fin 31) (b : Fin 2) (r : Fin 8192) (k : Fin 1024) :
    tap z w j (ix3 b r k) = w (ix2 j k) * z (ix3 b ⟨r.val + j.val, by omega⟩ k) := by
  rw [mul_comm]
  pointwise [tap, along]
  simp only [Nat.add_comm]

theorem summed_at (z w) (b : Fin 2) (r : Fin 8192) (k : Fin 1024) (n : Nat) (h : n ≤ 31) :
    summed z w n h (ix3 b r k) = chain 0 (fun j => w (ix2 j k)) (fun j => z (ix3 b ⟨r.val + j.val, by omega⟩ k)) n h := by
  induction n with
  | zero => pointwise [summed]; rfl
  | succ n ih => rw [chain, ← ih, ← tap_at]; rfl

theorem means_at (y) (b : Fin 2) (r : Fin 8192) : means y (ix3 b r 0) = mean (fun k => y (ix3 b r k)) := by
  pointwise [means]; rfl
theorem less_at (y) (b : Fin 2) (r : Fin 8192) (k : Fin 1024) : less y (ix3 b r k) = centred (fun k => y (ix3 b r k)) k := by
  unfold centred
  rw [← means_at]
  pointwise [less]
theorem normed_at (y g o) (b : Fin 2) (r : Fin 8192) (k : Fin 1024) :
    normed y g o (ix3 b r k) = layerNorm (fun k => y (ix3 b r k)) (fun k => g (ix1 k)) (fun k => o (ix1 k)) k := by
  pointwise [normed]
  rw [less_at, means_at, along_at, along_at]
  simp only [layerNorm, ← less_at]
  rfl

theorem outputs_at (n w) (q : Fin 16384) (d : Fin 2048) :
    outputs n w (ix2 q d) = ∑ k, swish (n (ix3 ⟨q.val / 8192, by omega⟩ ⟨q.val % 8192, by omega⟩ k)) * w (ix2 k d) := by
  pointwise [outputs]; rfl

/-- The gated rows of the array. -/
def gatedRow (p : FVec Ideal S16384x3072 .f32) (q : Fin 16384) (k : Fin 1024) : EReal :=
  glu (p (ix2 q ⟨1024 + k.val, by omega⟩)) (p (ix2 q ⟨2048 + k.val, by omega⟩))

theorem mixes_at (p w v) (q : Fin 16384) (k : Fin 1024) :
    mixes p w v (ix3 ⟨q.val / 8192, by omega⟩ ⟨q.val % 8192, by omega⟩ k)
      = mixRow (fun j k => w (ix2 j k)) (fun k => v (ix1 k)) (gatedRow p) q k := by
  unfold mixes
  show summed _ _ _ _ _ + along _ _ = _
  rw [summed_at, along_at, chain_all, zero_add, add_comm]
  unfold mixRow
  congr 1
  refine Finset.sum_congr rfl fun j _ => ?_
  congr 1
  rw [past_at]
  unfold earlier
  by_cases h : 30 ≤ q.val % 8192 + j.val
  · rw [dif_pos h, dif_pos (show 30 ≤ (⟨q.val % 8192 + j.val, by omega⟩ : Fin 8222).val from h), gated_at, columns_at, columns_at]
    have row : (⟨q.val / 8192 * 8192 + (q.val % 8192 + j.val - 30), by omega⟩ : Fin 16384) = ⟨q.val + j.val - 30, by omega⟩ :=
      by rw [Fin.mk.injEq]; omega
    have col : (⟨1024 + (1024 + k.val), by omega⟩ : Fin 3072) = ⟨2048 + k.val, by omega⟩ := by rw [Fin.mk.injEq]; omega
    unfold gatedRow
    rw [← row, ← col]
  · rw [dif_neg h, dif_neg (show ¬ 30 ≤ (⟨q.val % 8192 + j.val, by omega⟩ : Fin 8222).val from h)]

/-- The reference's result at row `q`, column `d`. -/
theorem conv_at (p w v g o wo) (q : Fin 16384) (d : Fin 2048) :
    conv p w v g o wo (ix2 q d)
      = branch (mixRow (fun j k => w (ix2 j k)) (fun k => v (ix1 k)) (gatedRow p) q) (fun k => g (ix1 k)) (fun k => o (ix1 k))
          (fun k d => wo (ix2 k d)) d := by
  unfold conv branch
  rw [outputs_at]
  simp only [normed_at, mixes_at]

/-- The sum the run leaves is the taps and the bias. -/
theorem staged (V0 : Valuation τ sig (Elt Ideal)) :
    Value.res_main_v232 V0 = mixes (V0 (Proc.devRef .tc main_arg0)) (V0 (Proc.devRef .tc main_arg1)) (V0 (Proc.devRef .tc main_arg2)) := by
  unfold Value.res_main_v232 Value.res_main_v166 Value.res_main_v89
  rfl

/-- The result the run leaves is the whole reference. -/
theorem whole (m : (ℓ : Loc nD τ sig) → Buf (Elt Ideal) ℓ) (c : Dev nD) :
    outputs (Value.res_main_v256 (StableHlo.launchContents m c)) (StableHlo.launchContents m c (Proc.devRef .tc main_arg5))
      = conv (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Value.res_main_v256 Value.res_main_v238 Value.res_main_v236
  rw [staged]
  rfl

end Cert.ConvRefIdeal.Layer
end
-- ==== Proof.Conv.Final.lean ====
/-
The convolution branch's whole result array: every block of it is the branch of the block's rows, and the blocks cover it.
-/
module

public import proofs.«01_k».proof.Proof.Conv.Block
public import proofs.«01_k».proof.Proof.Conv.Reference
public import Idealize.ShloMosaic.Lib.Claim

@[expose] public section
set_option maxRecDepth 16384

noncomputable section
namespace Cert.ConvIdeal.Layer
open Cert.ConvIdeal Cert.ConvIdeal.Gen Cert.Attn Cert.Branch
open Idealize.ShloMosaic Idealize.ShloMosaic.TcCoe Idealize.ShloMosaic.Tactic
open Idealize.ShloMosaic.Pipeline (Dat)
open Cert.ConvRefIdeal.Layer (conv conv_at gatedRow)

variable (m : (ℓ : Loc nD τ sig) → Buf (Elt Ideal) ℓ) (c : Dev nD)

/-- The sequence of a point, and its block of it. -/
def seq (t : Fin cfg0.N) : Fin 2 := ⟨(grid0.coords t 0).val, (grid0.coords t 0).isLt⟩
def part (t : Fin cfg0.N) : Fin 16 := ⟨(grid0.coords t 1).val, (grid0.coords t 1).isLt⟩

theorem index0 : ∀ t : Fin cfg0.N, win0_0.index t = ![(seq t).val * 16 + (part t).val, 1] := (by decide +kernel : ∀ t : Fin grid0.N, _)
theorem index1 : ∀ t : Fin cfg0.N, win0_1.index t = ![(seq t).val * 16 + (part t).val, 2] := (by decide +kernel : ∀ t : Fin grid0.N, _)
theorem index2 : ∀ t : Fin cfg0.N, win0_2.index t = ![(seq t).val * 256 + (part t).val * 16 - 1, 1] := (by decide +kernel : ∀ t : Fin grid0.N, _)
theorem index3 : ∀ t : Fin cfg0.N, win0_3.index t = ![(seq t).val * 256 + (part t).val * 16 - 1, 2] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![(seq t).val * 16 + (part t).val, 0] := (by decide +kernel : ∀ t : Fin grid0.N, _)

/-- The array's row that a block's row is, and the row that a row before the block is. -/
def rowIn (t : Fin cfg0.N) (r : Fin 512) : Fin 16384 := ⟨((seq t).val * 16 + (part t).val) * 512 + r.val, by omega⟩
def rowBefore (t : Fin cfg0.N) (r : Fin 32) : Fin 16384 := ⟨((seq t).val * 256 + (part t).val * 16 - 1) * 32 + r.val, by omega⟩

theorem placed (t : Fin cfg0.N) (r : Fin 512) (k : Fin 2048) : (win0_9.blk t).view.emb (ix2 r k) = ix2 (rowIn t r) k := by
  blk_ext [index9, rowIn]

/-- What the host hands the region: three vectors as one row each, and the output weights cast. -/
theorem host0 : V m c main_v0 = (truncf (F := Ideal) (s := S1024x2048) (φ := .f32) .bf16 (m ((c.tc : Thread nD τ).loc main_arg5)) bitsLt_bf16_f32 : FVec Ideal S1024x2048 .bf16) := by
  entry_read; rfl
theorem host1 : V m c main_v1 = shapeCast S1x1024 (m ((c.tc : Thread nD τ).loc main_arg2)) shapeCasts_S1024_S1x1024 := by
  entry_read; rfl
theorem host2 : V m c main_v2 = shapeCast S1x1024 (m ((c.tc : Thread nD τ).loc main_arg3)) shapeCasts_S1024_S1x1024 := by
  entry_read; rfl
theorem host3 : V m c main_v3 = shapeCast S1x1024 (m ((c.tc : Thread nD τ).loc main_arg4)) shapeCasts_S1024_S1x1024 := by
  entry_read; rfl
theorem one_row (v : FVec Ideal S1024 .f32) (k : Fin 1024) : shapeCast S1x1024 v shapeCasts_S1024_S1x1024 (ix2 0 k) = v (ix1 k) := by
  pointwise

theorem input0 (t : Fin cfg0.N) (r : Fin 512) (k : Fin 1024) :
    iblk m c 0 t (ix2 r k) = m ((c.tc : Thread nD τ).loc main_arg0) (ix2 (rowIn t r) ⟨1024 + k.val, by omega⟩) := by
  blk_point [iblk, V, index0 t, rowIn]
theorem input1 (t : Fin cfg0.N) (r : Fin 512) (k : Fin 1024) :
    iblk m c 1 t (ix2 r k) = m ((c.tc : Thread nD τ).loc main_arg0) (ix2 (rowIn t r) ⟨2048 + k.val, by omega⟩) := by
  blk_point [iblk, V, index1 t, rowIn]
theorem input2 (t : Fin cfg0.N) (r : Fin 32) (k : Fin 1024) :
    iblk m c 2 t (ix2 r k) = m ((c.tc : Thread nD τ).loc main_arg0) (ix2 (rowBefore t r) ⟨1024 + k.val, by omega⟩) := by
  blk_point [iblk, V, index2 t, rowBefore]
theorem input3 (t : Fin cfg0.N) (r : Fin 32) (k : Fin 1024) :
    iblk m c 3 t (ix2 r k) = m ((c.tc : Thread nD τ).loc main_arg0) (ix2 (rowBefore t r) ⟨2048 + k.val, by omega⟩) := by
  blk_point [iblk, V, index3 t, rowBefore]
theorem input4 (t : Fin cfg0.N) (j : Fin 31) (k : Fin 1024) :
    iblk m c 4 t (ix2 j k) = m ((c.tc : Thread nD τ).loc main_arg1) (ix2 j k) := by
  blk_point [iblk, V, index4 t]
theorem input5 (t : Fin cfg0.N) (k : Fin 1024) : iblk m c 5 t (ix2 0 k) = m ((c.tc : Thread nD τ).loc main_arg2) (ix1 k) := by
  have h : (win0_5.blk t).view.emb (ix2 0 k) = ix2 0 k := by blk_ext [index5]
  show V m c main_v1 ((win0_5.blk t).view.emb (ix2 0 k)) = _
  rw [host1, h, one_row]
theorem input6 (t : Fin cfg0.N) (k : Fin 1024) : iblk m c 6 t (ix2 0 k) = m ((c.tc : Thread nD τ).loc main_arg3) (ix1 k) := by
  have h : (win0_6.blk t).view.emb (ix2 0 k) = ix2 0 k := by blk_ext [index6]
  show V m c main_v2 ((win0_6.blk t).view.emb (ix2 0 k)) = _
  rw [host2, h, one_row]
theorem input7 (t : Fin cfg0.N) (k : Fin 1024) : iblk m c 7 t (ix2 0 k) = m ((c.tc : Thread nD τ).loc main_arg4) (ix1 k) := by
  have h : (win0_7.blk t).view.emb (ix2 0 k) = ix2 0 k := by blk_ext [index7]
  show V m c main_v3 ((win0_7.blk t).view.emb (ix2 0 k)) = _
  rw [host3, h, one_row]
theorem input8 (t : Fin cfg0.N) (k : Fin 1024) (d : Fin 2048) :
    iblk m c 8 t (ix2 k d) = m ((c.tc : Thread nD τ).loc main_arg5) (ix2 k d) := by
  have h : (win0_8.blk t).view.emb (ix2 k d) = ix2 k d := by blk_ext [index8]
  show V m c main_v0 ((win0_8.blk t).view.emb (ix2 k d)) = _
  rw [host0, h]
  rfl

/-- Every point is given the same weights and bias of the taps. -/
theorem sameWeights (t : Fin cfg0.N) : iblk m c 4 t = iblk m c 4 origin := by
  funext y
  obtain ⟨j, k, rfl⟩ : ∃ (j : Fin 31) (k : Fin 1024), y = ix2 j k := ⟨y 0, y 1, by funext a; fin_cases a <;> rfl⟩
  exact (input4 m c t j k).trans (input4 m c origin j k).symm
theorem sameBias (t : Fin cfg0.N) : iblk m c 5 t = iblk m c 5 origin := by
  funext y
  obtain ⟨k, rfl⟩ : ∃ (k : Fin 1024), y = ix2 (n0 := 1) 0 k := ⟨y 1, by funext a; fin_cases a; exact Subsingleton.elim (α := Fin 1) _ _; rfl⟩
  exact (input5 m c t k).trans (input5 m c origin k).symm

/-- The mixed taps of a block's row are those of the array's row. -/
theorem mixed_row (t : Fin cfg0.N) (r : Fin 512) :
    mix (weightsAt m c t) (rowsAt m c t) r
      = mixRow (fun j k => m ((c.tc : Thread nD τ).loc main_arg1) (ix2 j k)) (fun k => m ((c.tc : Thread nD τ).loc main_arg2) (ix1 k))
          (gatedRow (m ((c.tc : Thread nD τ).loc main_arg0))) (rowIn t r) := by
  funext k
  unfold weightsAt rowsAt
  simp only [input0, input1, input2, input3, input4, input5]
  exact mix_block _ _ (fun q k => m ((c.tc : Thread nD τ).loc main_arg0) (ix2 q ⟨1024 + k.val, by omega⟩))
    (fun q k => m ((c.tc : Thread nD τ).loc main_arg0) (ix2 q ⟨2048 + k.val, by omega⟩)) (seq t) (part t) r k

theorem final : (dats m 0 c).arrAt 9 cfg0.N
    = conv (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine Dat.arrAt_eq_of_covers (dats m 0 c) 9 _ (by decide +kernel) fun t hf y => ?_
  blk_simp [index9]
  obtain ⟨r, k, rfl⟩ : ∃ (r : Fin 512) (k : Fin 2048), y = ix2 r k := ⟨y 0, y 1, by funext a; fin_cases a <;> rfl⟩
  rw [after0_9, placed, conv_at]
  refine (stored_block m c (sameWeights m c) (sameBias m c) t r k).trans ?_
  rw [mixed_row]
  simp only [input6, input7, input8]

end Cert.ConvIdeal.Layer
end
-- ==== Proof.Disc.Math.lean ====
/-
One entry of the S5 branch's discretisation: an eigenvalue and the logarithm of a step give the entry of the state matrix, the
scale of the inputs, and a scaled input.
-/
module

public import Idealize.ShloMosaic.PureOps.Ideal

@[expose] public section

noncomputable section
namespace Cert.Branch
open Idealize.ShloMosaic

/-- The state matrix's entry, real and imaginary: the exponential of the eigenvalue `a + bi` times the step `exp t`. -/
def stateRe (a b t : EReal) : EReal := Ideal.exp (a * Ideal.exp t) * Ideal.cos (b * Ideal.exp t)
def stateIm (a b t : EReal) : EReal := Ideal.exp (a * Ideal.exp t) * Ideal.sin (b * Ideal.exp t)

/-- The number one, as the programs write it. -/
def unit : EReal := Ideal.ofBits .f32 0x3F800000#32

/-- The inputs' scale, real and imaginary: the state's entry less one, over the eigenvalue. -/
def scaleRe (a b t : EReal) : EReal :=
  Ideal.div ((stateRe a b t - unit) * a + stateIm a b t * b) (a * a + b * b)
def scaleIm (a b t : EReal) : EReal :=
  Ideal.div (stateIm a b t * a - (stateRe a b t - unit) * b) (a * a + b * b)

/-- A scaled input, real and imaginary. -/
def scaledRe (a b t x y : EReal) : EReal := scaleRe a b t * x - scaleIm a b t * y
def scaledIm (a b t x y : EReal) : EReal := scaleRe a b t * y + scaleIm a b t * x

end Cert.Branch
end
-- ==== Proof.Disc.Kernel.lean ====
/-
What the one grid point of the discretisation computes, read at an index.
-/
module

public import proofs.«01_k».proof.Proof.Gen.DiscIdeal.Value
public import proofs.«01_k».proof.Proof.Disc.Math
public import proofs.«01_k».proof.Proof.Value.Math
public import Idealize.ShloMosaic.Lib.Pipeline.ValueKit

@[expose] public section
set_option maxRecDepth 16384

noncomputable section
namespace Cert.DiscIdeal.Layer
open Cert.DiscIdeal Cert.DiscIdeal.Gen Cert.Attn Cert.Branch
open Idealize.ShloMosaic Idealize.ShloMosaic.TcCoe Idealize.ShloMosaic.Tactic

variable (a b : FVec Ideal S64x64 .f32) (t : FVec Ideal S64x1 .f32) (x y : FVec Ideal S16x64x64 .f32)

/-- A column along the states, and a matrix along the inputs. -/
theorem column_at (g s : Fin 64) : broadcastTo S64x64 (k0_pay2 (F := Ideal) t) broadcasts_S64x1_S64x64 (ix2 g s) = Ideal.exp (t (ix2 g 0)) := by
  pointwise [k0_pay2]
theorem along_at (v : FVec Ideal S64x64 .f32) (p : Fin 16) (g s : Fin 64) :
    broadcastTo S16x64x64 (shapeCast S1x64x64 v shapeCasts_S64x64_S1x64x64) broadcasts_S1x64x64_S16x64x64 (ix3 p g s) = v (ix2 g s) := by
  pointwise
theorem same11 : k0_pay11 (F := Ideal) x = x := by
  funext i
  obtain ⟨p, g, s, rfl⟩ : ∃ (p : Fin 16) (g s : Fin 64), i = ix3 p g s := ⟨i 0, i 1, i 2, by funext a; fin_cases a <;> rfl⟩
  pointwise [k0_pay11]
theorem same12 : k0_pay12 (F := Ideal) x = x := same11 x

theorem re_at (g s : Fin 64) : k0_pay5 (F := Ideal) a b t (ix2 g s) = stateRe (a (ix2 g s)) (b (ix2 g s)) (t (ix2 g 0)) := by
  show Ideal.exp (a (ix2 g s) * broadcastTo S64x64 (k0_pay2 (F := Ideal) t) broadcasts_S64x1_S64x64 (ix2 g s))
    * Ideal.cos (b (ix2 g s) * broadcastTo S64x64 (k0_pay2 (F := Ideal) t) broadcasts_S64x1_S64x64 (ix2 g s)) = _
  rw [column_at]; rfl
theorem im_at (g s : Fin 64) : k0_pay6 (F := Ideal) a b t (ix2 g s) = stateIm (a (ix2 g s)) (b (ix2 g s)) (t (ix2 g 0)) := by
  show Ideal.exp (a (ix2 g s) * broadcastTo S64x64 (k0_pay2 (F := Ideal) t) broadcasts_S64x1_S64x64 (ix2 g s))
    * Ideal.sin (b (ix2 g s) * broadcastTo S64x64 (k0_pay2 (F := Ideal) t) broadcasts_S64x1_S64x64 (ix2 g s)) = _
  rw [column_at]; rfl
theorem scale_re_at (g s : Fin 64) : k0_pay9 (F := Ideal) a b t (ix2 g s) = scaleRe (a (ix2 g s)) (b (ix2 g s)) (t (ix2 g 0)) := by
  show Ideal.div ((k0_pay5 (F := Ideal) a b t (ix2 g s) - unit) * a (ix2 g s) + k0_pay6 (F := Ideal) a b t (ix2 g s) * b (ix2 g s))
    (a (ix2 g s) * a (ix2 g s) + b (ix2 g s) * b (ix2 g s)) = _
  rw [re_at, im_at]; rfl
theorem scale_im_at (g s : Fin 64) : k0_pay10 (F := Ideal) a b t (ix2 g s) = scaleIm (a (ix2 g s)) (b (ix2 g s)) (t (ix2 g 0)) := by
  show Ideal.div (k0_pay6 (F := Ideal) a b t (ix2 g s) * a (ix2 g s) - (k0_pay5 (F := Ideal) a b t (ix2 g s) - unit) * b (ix2 g s))
    (a (ix2 g s) * a (ix2 g s) + b (ix2 g s) * b (ix2 g s)) = _
  rw [re_at, im_at]; rfl
theorem in_re_at (p : Fin 16) (g s : Fin 64) : k0_pay13 (F := Ideal) a b t x y (ix3 p g s)
    = scaledRe (a (ix2 g s)) (b (ix2 g s)) (t (ix2 g 0)) (x (ix3 p g s)) (y (ix3 p g s)) := by
  show broadcastTo S16x64x64 (shapeCast S1x64x64 (k0_pay9 (F := Ideal) a b t) shapeCasts_S64x64_S1x64x64) broadcasts_S1x64x64_S16x64x64 (ix3 p g s)
      * k0_pay11 (F := Ideal) x (ix3 p g s)
    - broadcastTo S16x64x64 (shapeCast S1x64x64 (k0_pay10 (F := Ideal) a b t) shapeCasts_S64x64_S1x64x64) broadcasts_S1x64x64_S16x64x64 (ix3 p g s)
      * k0_pay12 (F := Ideal) y (ix3 p g s) = _
  rw [along_at, along_at, same11, same12, scale_re_at, scale_im_at]; rfl
theorem in_im_at (p : Fin 16) (g s : Fin 64) :
    k0_pay1 (F := Ideal) (k0_pay9 a b t) (k0_pay10 a b t) (k0_pay11 x) (k0_pay12 y) (ix3 p g s)
      = scaledIm (a (ix2 g s)) (b (ix2 g s)) (t (ix2 g 0)) (x (ix3 p g s)) (y (ix3 p g s)) := by
  show broadcastTo S16x64x64 (shapeCast S1x64x64 (k0_pay9 (F := Ideal) a b t) shapeCasts_S64x64_S1x64x64) broadcasts_S1x64x64_S16x64x64 (ix3 p g s)
      * k0_pay12 (F := Ideal) y (ix3 p g s)
    + broadcastTo S16x64x64 (shapeCast S1x64x64 (k0_pay10 (F := Ideal) a b t) shapeCasts_S64x64_S1x64x64) broadcasts_S1x64x64_S16x64x64 (ix3 p g s)
      * k0_pay11 (F := Ideal) x (ix3 p g s) = _
  rw [along_at, along_at, same11, same12, scale_re_at, scale_im_at]; rfl

/-- What is stored is the payload of the whole blocks. -/
theorem stored5 : out0_5 (F := Ideal) a b t x y = k0_pay5 (F := Ideal) a b t := by unfold out0_5; frame_out
theorem stored6 : out0_6 (F := Ideal) a b t x y = k0_pay6 (F := Ideal) a b t := by unfold out0_6; frame_out
theorem stored7 : out0_7 (F := Ideal) a b t x y = k0_pay13 (F := Ideal) a b t x y := by unfold out0_7; frame_out
theorem stored8 : out0_8 (F := Ideal) a b t x y = k0_pay1 (F := Ideal) (k0_pay9 a b t) (k0_pay10 a b t) (k0_pay11 x) (k0_pay12 y) := by
  unfold out0_8; frame_out

end Cert.DiscIdeal.Layer
end
-- ==== Proof.Disc.Reference.lean ====
/-
The reference of the discretisation in stages, and its four results read at an index.
-/
module

public import proofs.«01_k».proof.Proof.Gen.DiscRefIdeal.Run
public import proofs.«01_k».proof.Proof.Disc.Math
public import proofs.«01_k».proof.Proof.Value.Math

@[expose] public section
set_option maxRecDepth 16384

noncomputable section
namespace Cert.DiscRefIdeal.Layer
open Cert.DiscRefIdeal Cert.DiscRefIdeal.Gen Cert.Attn Cert.Branch
open Idealize.ShloMosaic Idealize.ShloMosaic.TcCoe Idealize.ShloMosaic.Tactic

/-- The step of every group, along the group's states. -/
def steps (t : FVec Ideal S64 .f32) : FVec Ideal S64x64 .f32 :=
  broadcastInDim S64x64 ![0, 1] bcast_S64x1_S64x64_0_1 (broadcastInDim S64x1 ![0] bcast_S64_S64x1_0 (Host.exp t))
def ones : FVec Ideal S64x64 .f32 := broadcastInDim S64x64 ![] bcast_S_S64x64 (constant S_ .f32 0x3F800000#32)

/-- The state matrix. -/
def matrixRe (a b : FVec Ideal S64x64 .f32) (t : FVec Ideal S64 .f32) : FVec Ideal S64x64 .f32 :=
  mulf (Host.exp (mulf a (steps t))) (Host.cos (mulf b (steps t)))
def matrixIm (a b : FVec Ideal S64x64 .f32) (t : FVec Ideal S64 .f32) : FVec Ideal S64x64 .f32 :=
  mulf (Host.exp (mulf a (steps t))) (Host.sin (mulf b (steps t)))

/-- The scale of the inputs, and a scale along its inputs. -/
def scalesRe (a b : FVec Ideal S64x64 .f32) (t : FVec Ideal S64 .f32) : FVec Ideal S64x64 .f32 :=
  Host.divf (addf (mulf (subf (matrixRe a b t) ones) a) (mulf (matrixIm a b t) b)) (addf (mulf a a) (mulf b b))
def scalesIm (a b : FVec Ideal S64x64 .f32) (t : FVec Ideal S64 .f32) : FVec Ideal S64x64 .f32 :=
  Host.divf (subf (mulf (matrixIm a b t) a) (mulf (subf (matrixRe a b t) ones) b)) (addf (mulf a a) (mulf b b))
def spread (v : FVec Ideal S64x64 .f32) : FVec Ideal S64x64x16 .f32 :=
  broadcastInDim S64x64x16 ![0, 1, 2] bcast_S64x64x1_S64x64x16_0_1_2 (broadcastInDim S64x64x1 ![0, 1] bcast_S64x64_S64x64x1_0_1 v)

/-- The input matrix, its inputs first. -/
def inputsRe (a b : FVec Ideal S64x64 .f32) (t : FVec Ideal S64 .f32) (x y : FVec Ideal S64x64x16 .f32) : FVec Ideal S16x64x64 .f32 :=
  transpose S16x64x64 [2, 0, 1] (subf (mulf (spread (scalesRe a b t)) x) (mulf (spread (scalesIm a b t)) y)) transposes_S64x64x16_S16x64x64_2_0_1
def inputsIm (a b : FVec Ideal S64x64 .f32) (t : FVec Ideal S64 .f32) (x y : FVec Ideal S64x64x16 .f32) : FVec Ideal S16x64x64 .f32 :=
  transpose S16x64x64 [2, 0, 1] (addf (mulf (spread (scalesRe a b t)) y) (mulf (spread (scalesIm a b t)) x)) transposes_S64x64x16_S16x64x64_2_0_1

variable (a b : FVec Ideal S64x64 .f32) (t : FVec Ideal S64 .f32) (x y : FVec Ideal S64x64x16 .f32)

theorem steps_at (g s : Fin 64) : steps t (ix2 g s) = Ideal.exp (t (ix1 g)) := by pointwise [steps]
theorem ones_at (g s : Fin 64) : ones (ix2 g s) = unit := rfl
theorem spread_at (v : FVec Ideal S64x64 .f32) (g s : Fin 64) (p : Fin 16) : spread v (ix3 g s p) = v (ix2 g s) := by pointwise [spread]

theorem matrixRe_at (g s : Fin 64) : matrixRe a b t (ix2 g s) = stateRe (a (ix2 g s)) (b (ix2 g s)) (t (ix1 g)) := by
  show Ideal.exp (a (ix2 g s) * steps t (ix2 g s)) * Ideal.cos (b (ix2 g s) * steps t (ix2 g s)) = _
  rw [steps_at]; rfl
theorem matrixIm_at (g s : Fin 64) : matrixIm a b t (ix2 g s) = stateIm (a (ix2 g s)) (b (ix2 g s)) (t (ix1 g)) := by
  show Ideal.exp (a (ix2 g s) * steps t (ix2 g s)) * Ideal.sin (b (ix2 g s) * steps t (ix2 g s)) = _
  rw [steps_at]; rfl
theorem scalesRe_at (g s : Fin 64) : scalesRe a b t (ix2 g s) = scaleRe (a (ix2 g s)) (b (ix2 g s)) (t (ix1 g)) := by
  show Ideal.div ((matrixRe a b t (ix2 g s) - ones (ix2 g s)) * a (ix2 g s) + matrixIm a b t (ix2 g s) * b (ix2 g s))
    (a (ix2 g s) * a (ix2 g s) + b (ix2 g s) * b (ix2 g s)) = _
  rw [matrixRe_at, matrixIm_at, ones_at]; rfl
theorem scalesIm_at (g s : Fin 64) : scalesIm a b t (ix2 g s) = scaleIm (a (ix2 g s)) (b (ix2 g s)) (t (ix1 g)) := by
  show Ideal.div (matrixIm a b t (ix2 g s) * a (ix2 g s) - (matrixRe a b t (ix2 g s) - ones (ix2 g s)) * b (ix2 g s))
    (a (ix2 g s) * a (ix2 g s) + b (ix2 g s) * b (ix2 g s)) = _
  rw [matrixRe_at, matrixIm_at, ones_at]; rfl

/-- The input matrix's order of axes. -/
theorem turned (v : FVec Ideal S64x64x16 .f32) (p : Fin 16) (g s : Fin 64) :
    transpose S16x64x64 [2, 0, 1] v transposes_S64x64x16_S16x64x64_2_0_1 (ix3 p g s) = v (ix3 g s p) := by pointwise

theorem inputsRe_at (p : Fin 16) (g s : Fin 64) : inputsRe a b t x y (ix3 p g s)
    = scaledRe (a (ix2 g s)) (b (ix2 g s)) (t (ix1 g)) (x (ix3 g s p)) (y (ix3 g s p)) := by
  unfold inputsRe
  rw [turned]
  show spread (scalesRe a b t) (ix3 g s p) * x (ix3 g s p) - spread (scalesIm a b t) (ix3 g s p) * y (ix3 g s p) = _
  rw [spread_at, spread_at, scalesRe_at, scalesIm_at]; rfl
theorem inputsIm_at (p : Fin 16) (g s : Fin 64) : inputsIm a b t x y (ix3 p g s)
    = scaledIm (a (ix2 g s)) (b (ix2 g s)) (t (ix1 g)) (x (ix3 g s p)) (y (ix3 g s p)) := by
  unfold inputsIm
  rw [turned]
  show spread (scalesRe a b t) (ix3 g s p) * y (ix3 g s p) + spread (scalesIm a b t) (ix3 g s p) * x (ix3 g s p) = _
  rw [spread_at, spread_at, scalesRe_at, scalesIm_at]; rfl

end Cert.DiscRefIdeal.Layer
end
-- ==== Proof.Disc.Final.lean ====
/-
The discretisation's four whole result arrays: the one grid point's blocks are the whole arrays.
-/
module

public import proofs.«01_k».proof.Proof.Disc.Kernel
public import proofs.«01_k».proof.Proof.Disc.Reference
public import Idealize.ShloMosaic.Lib.Claim

@[expose] public section
set_option maxRecDepth 16384

noncomputable section
namespace Cert.DiscIdeal.Layer
open Cert.DiscIdeal Cert.DiscIdeal.Gen Cert.Attn Cert.Branch
open Idealize.ShloMosaic Idealize.ShloMosaic.TcCoe Idealize.ShloMosaic.Tactic
open Idealize.ShloMosaic.Pipeline (Dat)
open Cert.DiscRefIdeal.Layer (matrixRe matrixIm inputsRe inputsIm matrixRe_at matrixIm_at inputsRe_at inputsIm_at)

variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0, 0] := (by decide +kernel : ∀ t : Fin grid0.N, _)

theorem placed0 (t : Fin cfg0.N) (g s : Fin 64) : (win0_0.blk t).view.emb (ix2 g s) = ix2 g s := by blk_ext [index0]
theorem placed1 (t : Fin cfg0.N) (g s : Fin 64) : (win0_1.blk t).view.emb (ix2 g s) = ix2 g s := by blk_ext [index1]
theorem placed2 (t : Fin cfg0.N) (g : Fin 64) : (win0_2.blk t).view.emb (ix2 g 0) = ix2 g 0 := by blk_ext [index2]
theorem placed3 (t : Fin cfg0.N) (p : Fin 16) (g s : Fin 64) : (win0_3.blk t).view.emb (ix3 p g s) = ix3 p g s := by blk_ext [index3]
theorem placed4 (t : Fin cfg0.N) (p : Fin 16) (g s : Fin 64) : (win0_4.blk t).view.emb (ix3 p g s) = ix3 p g s := by blk_ext [index4]
theorem placed5 (t : Fin cfg0.N) (g s : Fin 64) : (win0_5.blk t).view.emb (ix2 g s) = ix2 g s := by blk_ext [index5]
theorem placed6 (t : Fin cfg0.N) (g s : Fin 64) : (win0_6.blk t).view.emb (ix2 g s) = ix2 g s := by blk_ext [index6]
theorem placed7 (t : Fin cfg0.N) (p : Fin 16) (g s : Fin 64) : (win0_7.blk t).view.emb (ix3 p g s) = ix3 p g s := by blk_ext [index7]
theorem placed8 (t : Fin cfg0.N) (p : Fin 16) (g s : Fin 64) : (win0_8.blk t).view.emb (ix3 p g s) = ix3 p g s := by blk_ext [index8]

/-- What the host hands the region: the inputs' matrix with its inputs first, and the steps as one column. -/
theorem host0 : V m c main_v0 = transpose S16x64x64 [2, 0, 1] (m ((c.tc : Thread nD τ).loc main_arg3)) transposes_S64x64x16_S16x64x64_2_0_1 := by
  entry_read; rfl
theorem host1 : V m c main_v1 = transpose S16x64x64 [2, 0, 1] (m ((c.tc : Thread nD τ).loc main_arg4)) transposes_S64x64x16_S16x64x64_2_0_1 := by
  entry_read; rfl
theorem host2 : V m c main_v2 = shapeCast S64x1 (m ((c.tc : Thread nD τ).loc main_arg2)) shapeCasts_S64_S64x1 := by
  entry_read; rfl
theorem host_at (v : FVec Ideal S64x64x16 .f32) (p : Fin 16) (g s : Fin 64) :
    transpose S16x64x64 [2, 0, 1] v transposes_S64x64x16_S16x64x64_2_0_1 (ix3 p g s) = v (ix3 g s p) := by pointwise
theorem one_column (v : FVec Ideal S64 .f32) (g : Fin 64) : shapeCast S64x1 v shapeCasts_S64_S64x1 (ix2 g 0) = v (ix1 g) := by
  pointwise

theorem input0 (t : Fin cfg0.N) (g s : Fin 64) : iblk m c 0 t (ix2 g s) = m ((c.tc : Thread nD τ).loc main_arg0) (ix2 g s) := by
  show V m c main_arg0 ((win0_0.blk t).view.emb (ix2 g s)) = _
  rw [placed0]; rfl
theorem input1 (t : Fin cfg0.N) (g s : Fin 64) : iblk m c 1 t (ix2 g s) = m ((c.tc : Thread nD τ).loc main_arg1) (ix2 g s) := by
  show V m c main_arg1 ((win0_1.blk t).view.emb (ix2 g s)) = _
  rw [placed1]; rfl
theorem input2 (t : Fin cfg0.N) (g : Fin 64) : iblk m c 2 t (ix2 g 0) = m ((c.tc : Thread nD τ).loc main_arg2) (ix1 g) := by
  show V m c main_v2 ((win0_2.blk t).view.emb (ix2 g 0)) = _
  rw [host2, placed2, one_column]
theorem input3 (t : Fin cfg0.N) (p : Fin 16) (g s : Fin 64) : iblk m c 3 t (ix3 p g s) = m ((c.tc : Thread nD τ).loc main_arg3) (ix3 g s p) := by
  show V m c main_v0 ((win0_3.blk t).view.emb (ix3 p g s)) = _
  rw [host0, placed3, host_at]
theorem input4 (t : Fin cfg0.N) (p : Fin 16) (g s : Fin 64) : iblk m c 4 t (ix3 p g s) = m ((c.tc : Thread nD τ).loc main_arg4) (ix3 g s p) := by
  show V m c main_v1 ((win0_4.blk t).view.emb (ix3 p g s)) = _
  rw [host1, placed4, host_at]

theorem final_re : (dats m 0 c).arrAt 5 cfg0.N
    = matrixRe (m ((c.tc : Thread nD τ).loc main_arg0)) (m ((c.tc : Thread nD τ).loc main_arg1)) (m ((c.tc : Thread nD τ).loc main_arg2)) := by
  refine Dat.arrAt_eq_of_covers (dats m 0 c) 5 _ (by decide +kernel) fun t hf y => ?_
  blk_simp
  obtain ⟨g, s, rfl⟩ : ∃ (g s : Fin 64), y = ix2 g s := ⟨y 0, y 1, by funext a; fin_cases a <;> rfl⟩
  rw [after0_5, placed5, matrixRe_at, stored5]
  refine (re_at _ _ _ g s).trans ?_
  rw [input0, input1, input2]

theorem final_im : (dats m 0 c).arrAt 6 cfg0.N
    = matrixIm (m ((c.tc : Thread nD τ).loc main_arg0)) (m ((c.tc : Thread nD τ).loc main_arg1)) (m ((c.tc : Thread nD τ).loc main_arg2)) := by
  refine Dat.arrAt_eq_of_covers (dats m 0 c) 6 _ (by decide +kernel) fun t hf y => ?_
  blk_simp
  obtain ⟨g, s, rfl⟩ : ∃ (g s : Fin 64), y = ix2 g s := ⟨y 0, y 1, by funext a; fin_cases a <;> rfl⟩
  rw [after0_6, placed6, matrixIm_at, stored6]
  refine (im_at _ _ _ g s).trans ?_
  rw [input0, input1, input2]

theorem final_in_re : (dats m 0 c).arrAt 7 cfg0.N
    = inputsRe (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine Dat.arrAt_eq_of_covers (dats m 0 c) 7 _ (by decide +kernel) fun t hf y => ?_
  blk_simp
  obtain ⟨p, g, s, rfl⟩ : ∃ (p : Fin 16) (g s : Fin 64), y = ix3 p g s := ⟨y 0, y 1, y 2, by funext a; fin_cases a <;> rfl⟩
  rw [after0_7, placed7, inputsRe_at, stored7]
  refine (in_re_at _ _ _ _ _ p g s).trans ?_
  rw [input0, input1, input2, input3, input4]

theorem final_in_im : (dats m 0 c).arrAt 8 cfg0.N
    = inputsIm (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine Dat.arrAt_eq_of_covers (dats m 0 c) 8 _ (by decide +kernel) fun t hf y => ?_
  blk_simp
  obtain ⟨p, g, s, rfl⟩ : ∃ (p : Fin 16) (g s : Fin 64), y = ix3 p g s := ⟨y 0, y 1, y 2, by funext a; fin_cases a <;> rfl⟩
  rw [after0_8, placed8, inputsIm_at, stored8]
  refine (in_im_at _ _ _ _ _ p g s).trans ?_
  rw [input0, input1, input2, input3, input4]

end Cert.DiscIdeal.Layer
end
-- ==== Proof.Bits.Run.lean ====
/-
One run of the attention kernel's body (Kernel), on any whole staging buffers: the nine inputs come back as they
were and the other buffers at some contents. Both cases of the body's one conditional (the first grid
point clears the running counts) are run by the same text. -/
module

public import proofs.«01_k».proof.Proof.Gen.Kernel.Frame
public import proofs.«01_k».proof.Proof.Gen.Kernel.Skeleton

@[expose] public section

set_option maxRecDepth 16384

noncomputable section

namespace Cert.Kernel.Attn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The condition of the body's one conditional: the first grid point. -/
abbrev first (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

set_option maxHeartbeats 4000000 in
/-- The body runs from its inputs at their contents and every other buffer at anything, and gives them back. -/
theorem run_body (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x4096 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S2048x256 .bf16) (harg8 : arg8.IsWhole) (arg9 : Memref sig .tc .vmem S1x128 .f32) (harg9 : arg9.IsWhole) (arg10 : Memref sig .tc .vmem S512x512 .bf16) (harg10 : arg10.IsWhole) (arg11 : Memref sig .tc .vmem S512x2048 .f32) (harg11 : arg11.IsWhole) (arg12 : Memref sig .tc .vmem S4096x128 .i32) (harg12 : arg12.IsWhole) (arg13 : Memref sig .tc .vmem S512x128 .f32) (harg13 : arg13.IsWhole) (arg14 : Memref sig .tc .vmem S8x512 .f32) (harg14 : arg14.IsWhole) (arg15 : Memref sig .tc .vmem S1x128 .f32) (harg15 : arg15.IsWhole) (arg16 : Memref sig .tc .vmem S1x128 .f32) (harg16 : arg16.IsWhole) (x0 : Vec F S512x2048 .f32) (x1 : Vec F S1x2048 .f32) (x2 : Vec F S2048x2048 .bf16) (x3 : Vec F S256x4096 .bf16) (x4 : Vec F S2048x2048 .bf16) (x5 : Vec F S1x2048 .f32) (x6 : Vec F S2048x256 .bf16) (x7 : Vec F S1x128 .f32) (x8 : Vec F S512x512 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_xattn_router i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  by_cases hc : first i
  all_goals
    simp only [cc0_xattn_router_eq_skeleton]; unfold cc0_xattn_router_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Kernel.Attn

end
-- ==== Proof.Ideal.Run.lean ====
/-
One run of the attention kernel's body (KernelIdeal), on any whole staging buffers: the nine inputs come back as they
were, the first output with the pieces its store leaves, and the other buffers at some contents. Both cases of the body's one conditional (the first grid
point clears the running counts) are run by the same text. -/
module

public import proofs.«01_k».proof.Proof.Gen.KernelIdeal.Frame
public import proofs.«01_k».proof.Proof.Gen.KernelIdeal.Skeleton

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's one conditional: the first grid point. -/
abbrev first (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

set_option maxHeartbeats 4000000 in
/-- The body's run at the first grid point, with the pieces it leaves in the first output. -/
def run_first (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x4096 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S2048x256 .bf16) (harg8 : arg8.IsWhole) (arg9 : Memref sig .tc .vmem S1x128 .f32) (harg9 : arg9.IsWhole) (arg10 : Memref sig .tc .vmem S512x512 .bf16) (harg10 : arg10.IsWhole) (arg11 : Memref sig .tc .vmem S512x2048 .f32) (harg11 : arg11.IsWhole) (arg12 : Memref sig .tc .vmem S4096x2x128 .bf16) (harg12 : arg12.IsWhole) (arg13 : Memref sig .tc .vmem S512x128 .f32) (harg13 : arg13.IsWhole) (arg14 : Memref sig .tc .vmem S8x512 .f32) (harg14 : arg14.IsWhole) (arg15 : Memref sig .tc .vmem S1x128 .f32) (harg15 : arg15.IsWhole) (arg16 : Memref sig .tc .vmem S1x128 .f32) (harg16 : arg16.IsWhole) (hc : first i) (x0 : Vec F S512x2048 .f32) (x1 : Vec F S1x2048 .f32) (x2 : Vec F S2048x2048 .bf16) (x3 : Vec F S256x4096 .bf16) (x4 : Vec F S2048x2048 .bf16) (x5 : Vec F S1x2048 .f32) (x6 : Vec F S2048x256 .bf16) (x7 : Vec F S1x128 .f32) (x8 : Vec F S512x512 .bf16) :
    { L : List (View.Piece (Elt F) S512x2048 .f32) // ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_xattn_router i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_xattn_router_eq_skeleton]; unfold cc0_xattn_router_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

set_option maxHeartbeats 4000000 in
/-- The body's run at every later grid point, with the pieces it leaves in the first output. -/
def run_later (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x4096 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S2048x256 .bf16) (harg8 : arg8.IsWhole) (arg9 : Memref sig .tc .vmem S1x128 .f32) (harg9 : arg9.IsWhole) (arg10 : Memref sig .tc .vmem S512x512 .bf16) (harg10 : arg10.IsWhole) (arg11 : Memref sig .tc .vmem S512x2048 .f32) (harg11 : arg11.IsWhole) (arg12 : Memref sig .tc .vmem S4096x2x128 .bf16) (harg12 : arg12.IsWhole) (arg13 : Memref sig .tc .vmem S512x128 .f32) (harg13 : arg13.IsWhole) (arg14 : Memref sig .tc .vmem S8x512 .f32) (harg14 : arg14.IsWhole) (arg15 : Memref sig .tc .vmem S1x128 .f32) (harg15 : arg15.IsWhole) (arg16 : Memref sig .tc .vmem S1x128 .f32) (harg16 : arg16.IsWhole) (hc : ¬first i) (x0 : Vec F S512x2048 .f32) (x1 : Vec F S1x2048 .f32) (x2 : Vec F S2048x2048 .bf16) (x3 : Vec F S256x4096 .bf16) (x4 : Vec F S2048x2048 .bf16) (x5 : Vec F S1x2048 .f32) (x6 : Vec F S2048x256 .bf16) (x7 : Vec F S1x128 .f32) (x8 : Vec F S512x512 .bf16) :
    { L : List (View.Piece (Elt F) S512x2048 .f32) // ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_xattn_router i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_xattn_router_eq_skeleton]; unfold cc0_xattn_router_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.KernelIdeal.Attn

end
-- ==== Proof.Ideal.Block.lean ====
/-
The attention block one grid point stores: the body's payloads chained over its blocks of `x`, the norm's gain, the query
weights, the keys and values and the output weights, one head after another. -/
module

public import proofs.«01_k».proof.Proof.Ideal.Run
public import Idealize.ShloMosaic.Lib.Pipeline.ValueKit

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Columns of the query weights, of the keys and values, and rows of the output weights, as the body loads them. -/
abbrev wqCols (x : Vec F S2048x2048 .bf16) (o : Nat) (h : ∀ a, ![0, o] a + S2048x512.size a ≤ S2048x2048.size a) : Vec F S2048x512 .bf16 :=
  View.ld x (Rect.unit ![0, o] S2048x512.size h)
abbrev kvCols (x : Vec F S256x4096 .bf16) (o : Nat) (h : ∀ a, ![0, o] a + S256x512.size a ≤ S256x4096.size a) : Vec F S256x512 .bf16 :=
  View.ld x (Rect.unit ![0, o] S256x512.size h)
abbrev woRows (x : Vec F S2048x2048 .bf16) (o : Nat) (h : ∀ a, ![o, 0] a + S512x2048.size a ≤ S2048x2048.size a) : Vec F S512x2048 .bf16 :=
  View.ld x (Rect.unit ![o, 0] S512x2048.size h)

/-- The block of `x` and the first head. -/
def acc0 (x0 : Vec F S512x2048 .f32) (x1 : Vec F S1x2048 .f32) (x2 : Vec F S2048x2048 .bf16) (x3 : Vec F S256x4096 .bf16) (x4 : Vec F S2048x2048 .bf16) : FVec F S512x2048 .f32 :=
  k0_pay8 (k0_pay4 x0) (kvCols x3 2048 inb_S256x4096_S256x512_0_2048)
    (k0_pay6 x0 x1 (wqCols x2 0 inb_S2048x2048_S2048x512_0_0) (kvCols x3 0 inb_S256x4096_S256x512_0_0))
    (woRows x4 0 inb_S2048x2048_S512x2048_0_0)

/-- The second and third heads added. -/
def acc2 (x0 : Vec F S512x2048 .f32) (x1 : Vec F S1x2048 .f32) (x2 : Vec F S2048x2048 .bf16) (x3 : Vec F S256x4096 .bf16) (x4 : Vec F S2048x2048 .bf16) : FVec F S512x2048 .f32 :=
  k0_pay12 (acc0 x0 x1 x2 x3 x4) (k0_pay9 (k0_pay5 x0 x1) (wqCols x2 1024 inb_S2048x2048_S2048x512_0_1024))
    (k0_pay10 (k0_pay7 x0 x1 (wqCols x2 512 inb_S2048x2048_S2048x512_0_512)) (kvCols x3 512 inb_S256x4096_S256x512_0_512)
      (kvCols x3 2560 inb_S256x4096_S256x512_0_2560))
    (k0_pay11 (woRows x4 512 inb_S2048x2048_S512x2048_512_0)) (constant S512x2048 .f32 0x00000000#32)
    (kvCols x3 1024 inb_S256x4096_S256x512_0_1024) (kvCols x3 3072 inb_S256x4096_S256x512_0_3072)
    (woRows x4 1024 inb_S2048x2048_S512x2048_1024_0)

/-- The fourth head added: what the body stores. -/
def outBlock (x0 : Vec F S512x2048 .f32) (x1 : Vec F S1x2048 .f32) (x2 : Vec F S2048x2048 .bf16) (x3 : Vec F S256x4096 .bf16) (x4 : Vec F S2048x2048 .bf16) : FVec F S512x2048 .f32 :=
  k0_pay14 (acc2 x0 x1 x2 x3 x4) (kvCols x3 3584 inb_S256x4096_S256x512_0_3584)
    (k0_pay13 (k0_pay5 x0 x1) (wqCols x2 1536 inb_S2048x2048_S2048x512_0_1536) (kvCols x3 1536 inb_S256x4096_S256x512_0_1536))
    (woRows x4 1536 inb_S2048x2048_S512x2048_1536_0)

/-- Whole loads of the block of `x` and of the gain. -/
theorem whole_x (x : Vec F S512x2048 .f32) : View.ld x (Rect.unit ![0, 0] ![512, 2048] inb_S512x2048_S512x2048_0_0) = x :=
  View.ld_unit_zero (S := S512x2048) (by decide) inb_S512x2048_S512x2048_0_0 x
theorem whole_g (x : Vec F S1x2048 .f32) : View.ld x (Rect.unit ![0, 0] ![1, 2048] inb_S1x2048_S1x2048_0_0) = x :=
  View.ld_unit_zero (S := S1x2048) (by decide) inb_S1x2048_S1x2048_0_0 x

/-- One store through a rectangle of the whole shape reads back as its payload. -/
theorem read_store {S : Shape} {e : EltTy} (v : View sig .tc .vmem S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

theorem read_whole_store (v : View sig .tc .vmem S512x2048 .f32) (f : v.ty.Contents (Elt F)) (w : Vec F S512x2048 .f32) :
    v.read (Elt F) (v.writes (Elt F) f [⟨Rect.unit ![0, 0] S512x2048.size inb_S512x2048_S512x2048_0_0, w⟩]) = w :=
  read_store v f (by decide) inb_S512x2048_S512x2048_0_0 w

theorem pieces_first (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x4096 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S2048x256 .bf16) (harg8 : arg8.IsWhole) (arg9 : Memref sig .tc .vmem S1x128 .f32) (harg9 : arg9.IsWhole) (arg10 : Memref sig .tc .vmem S512x512 .bf16) (harg10 : arg10.IsWhole) (arg11 : Memref sig .tc .vmem S512x2048 .f32) (harg11 : arg11.IsWhole) (arg12 : Memref sig .tc .vmem S4096x2x128 .bf16) (harg12 : arg12.IsWhole) (arg13 : Memref sig .tc .vmem S512x128 .f32) (harg13 : arg13.IsWhole) (arg14 : Memref sig .tc .vmem S8x512 .f32) (harg14 : arg14.IsWhole) (arg15 : Memref sig .tc .vmem S1x128 .f32) (harg15 : arg15.IsWhole) (arg16 : Memref sig .tc .vmem S1x128 .f32) (harg16 : arg16.IsWhole) (hc : first i) (x0 : Vec F S512x2048 .f32) (x1 : Vec F S1x2048 .f32) (x2 : Vec F S2048x2048 .bf16) (x3 : Vec F S256x4096 .bf16) (x4 : Vec F S2048x2048 .bf16) (x5 : Vec F S1x2048 .f32) (x6 : Vec F S2048x256 .bf16) (x7 : Vec F S1x128 .f32) (x8 : Vec F S512x512 .bf16) :
    (run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8).1 = [⟨Rect.unit ![0, 0] S512x2048.size inb_S512x2048_S512x2048_0_0, outBlock x0 x1 x2 x3 x4⟩] := by
  unfold run_first; dsimp only
  sl_unfold_words
  simp only [View.readAt_eq_ld, Memref.IsWhole.read_unread, whole_x, whole_g]
  rfl

theorem pieces_later (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x4096 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S2048x256 .bf16) (harg8 : arg8.IsWhole) (arg9 : Memref sig .tc .vmem S1x128 .f32) (harg9 : arg9.IsWhole) (arg10 : Memref sig .tc .vmem S512x512 .bf16) (harg10 : arg10.IsWhole) (arg11 : Memref sig .tc .vmem S512x2048 .f32) (harg11 : arg11.IsWhole) (arg12 : Memref sig .tc .vmem S4096x2x128 .bf16) (harg12 : arg12.IsWhole) (arg13 : Memref sig .tc .vmem S512x128 .f32) (harg13 : arg13.IsWhole) (arg14 : Memref sig .tc .vmem S8x512 .f32) (harg14 : arg14.IsWhole) (arg15 : Memref sig .tc .vmem S1x128 .f32) (harg15 : arg15.IsWhole) (arg16 : Memref sig .tc .vmem S1x128 .f32) (harg16 : arg16.IsWhole) (hc : ¬first i) (x0 : Vec F S512x2048 .f32) (x1 : Vec F S1x2048 .f32) (x2 : Vec F S2048x2048 .bf16) (x3 : Vec F S256x4096 .bf16) (x4 : Vec F S2048x2048 .bf16) (x5 : Vec F S1x2048 .f32) (x6 : Vec F S2048x256 .bf16) (x7 : Vec F S1x128 .f32) (x8 : Vec F S512x512 .bf16) :
    (run_later c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8).1 = [⟨Rect.unit ![0, 0] S512x2048.size inb_S512x2048_S512x2048_0_0, outBlock x0 x1 x2 x3 x4⟩] := by
  unfold run_later; dsimp only
  sl_unfold_words
  simp only [View.readAt_eq_ld, Memref.IsWhole.read_unread, whole_x, whole_g]
  rfl

/-- The body's run with the first output named. -/
theorem run_body (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S256x4096 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S2048x256 .bf16) (harg8 : arg8.IsWhole) (arg9 : Memref sig .tc .vmem S1x128 .f32) (harg9 : arg9.IsWhole) (arg10 : Memref sig .tc .vmem S512x512 .bf16) (harg10 : arg10.IsWhole) (arg11 : Memref sig .tc .vmem S512x2048 .f32) (harg11 : arg11.IsWhole) (arg12 : Memref sig .tc .vmem S4096x2x128 .bf16) (harg12 : arg12.IsWhole) (arg13 : Memref sig .tc .vmem S512x128 .f32) (harg13 : arg13.IsWhole) (arg14 : Memref sig .tc .vmem S8x512 .f32) (harg14 : arg14.IsWhole) (arg15 : Memref sig .tc .vmem S1x128 .f32) (harg15 : arg15.IsWhole) (arg16 : Memref sig .tc .vmem S1x128 .f32) (harg16 : arg16.IsWhole) (x0 : Vec F S512x2048 .f32) (x1 : Vec F S1x2048 .f32) (x2 : Vec F S2048x2048 .bf16) (x3 : Vec F S256x4096 .bf16) (x4 : Vec F S2048x2048 .bf16) (x5 : Vec F S1x2048 .f32) (x6 : Vec F S2048x256 .bf16) (x7 : Vec F S1x128 .f32) (x8 : Vec F S512x512 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outBlock x0 x1 x2 x3 x4) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_xattn_router i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  by_cases hc : first i
  · refine .trans ?_ ((run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8).2 E K)
    rw [pieces_first]
    iintro ⟨H0, H1, H2, H3, H4, H5, H6, H7, H8, H9, H10, H11, H12, H13, H14, Hk⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, ⟨%f, H9⟩, H10, H11, H12, H13, H14⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact read_whole_store _ _ _
    isplitl [H10]; · iexact H10
    isplitl [H11]; · iexact H11
    isplitl [H12]; · iexact H12
    isplitl [H13]; · iexact H13
    iexact H14
  · refine .trans ?_ ((run_later c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8).2 E K)
    rw [pieces_later]
    iintro ⟨H0, H1, H2, H3, H4, H5, H6, H7, H8, H9, H10, H11, H12, H13, H14, Hk⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, ⟨%f, H9⟩, H10, H11, H12, H13, H14⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact read_whole_store _ _ _
    isplitl [H10]; · iexact H10
    isplitl [H11]; · iexact H11
    isplitl [H12]; · iexact H12
    isplitl [H13]; · iexact H13
    iexact H14

end Cert.KernelIdeal.Attn

end
-- ==== Proof.Ideal.Frame.lean ====
/-
The attention program's frame (KernelIdeal): the pipeline's proof data, the body's obligation at every grid point, the
launch, and the argument arrays left as they were, with the first output's array named after the run. Of the outputs 10, 11, 12, 13 nothing is
claimed, so what the body leaves in them is not named. -/
module

public import proofs.«01_k».proof.Proof.Ideal.Block

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's staging buffer at a point, and that it is whole. -/
abbrev stg0 (t : Fin cfg0.N) : Memref sig .tc .vmem S512x2048 .f32 := win0_0.stage (cfg0.slots t 0)
abbrev stgW0 (t : Fin cfg0.N) : (stg0 t).IsWhole := hstage0_0 ((cfg0.slots t 0).cast nbuf0_0)
abbrev stg1 (t : Fin cfg0.N) : Memref sig .tc .vmem S1x2048 .f32 := win0_1.stage (cfg0.slots t 1)
abbrev stgW1 (t : Fin cfg0.N) : (stg1 t).IsWhole := hstage0_1 ((cfg0.slots t 1).cast nbuf0_1)
abbrev stg2 (t : Fin cfg0.N) : Memref sig .tc .vmem S2048x2048 .bf16 := win0_2.stage (cfg0.slots t 2)
abbrev stgW2 (t : Fin cfg0.N) : (stg2 t).IsWhole := hstage0_2 ((cfg0.slots t 2).cast nbuf0_2)
abbrev stg3 (t : Fin cfg0.N) : Memref sig .tc .vmem S256x4096 .bf16 := win0_3.stage (cfg0.slots t 3)
abbrev stgW3 (t : Fin cfg0.N) : (stg3 t).IsWhole := hstage0_3 ((cfg0.slots t 3).cast nbuf0_3)
abbrev stg4 (t : Fin cfg0.N) : Memref sig .tc .vmem S2048x2048 .bf16 := win0_4.stage (cfg0.slots t 4)
abbrev stgW4 (t : Fin cfg0.N) : (stg4 t).IsWhole := hstage0_4 ((cfg0.slots t 4).cast nbuf0_4)
abbrev stg5 (t : Fin cfg0.N) : Memref sig .tc .vmem S1x2048 .f32 := win0_5.stage (cfg0.slots t 5)
abbrev stgW5 (t : Fin cfg0.N) : (stg5 t).IsWhole := hstage0_5 ((cfg0.slots t 5).cast nbuf0_5)
abbrev stg6 (t : Fin cfg0.N) : Memref sig .tc .vmem S2048x256 .bf16 := win0_6.stage (cfg0.slots t 6)
abbrev stgW6 (t : Fin cfg0.N) : (stg6 t).IsWhole := hstage0_6 ((cfg0.slots t 6).cast nbuf0_6)
abbrev stg7 (t : Fin cfg0.N) : Memref sig .tc .vmem S1x128 .f32 := win0_7.stage (cfg0.slots t 7)
abbrev stgW7 (t : Fin cfg0.N) : (stg7 t).IsWhole := hstage0_7 ((cfg0.slots t 7).cast nbuf0_7)
abbrev stg8 (t : Fin cfg0.N) : Memref sig .tc .vmem S512x512 .bf16 := win0_8.stage (cfg0.slots t 8)
abbrev stgW8 (t : Fin cfg0.N) : (stg8 t).IsWhole := hstage0_8 ((cfg0.slots t 8).cast nbuf0_8)
abbrev stg9 (t : Fin cfg0.N) : Memref sig .tc .vmem S512x2048 .f32 := win0_9.stage (cfg0.slots t 9)
abbrev stgW9 (t : Fin cfg0.N) : (stg9 t).IsWhole := hstage0_9 ((cfg0.slots t 9).cast nbuf0_9)
abbrev stg10 (t : Fin cfg0.N) : Memref sig .tc .vmem S4096x2x128 .bf16 := win0_10.stage (cfg0.slots t 10)
abbrev stgW10 (t : Fin cfg0.N) : (stg10 t).IsWhole := hstage0_10 ((cfg0.slots t 10).cast nbuf0_10)
abbrev stg11 (t : Fin cfg0.N) : Memref sig .tc .vmem S512x128 .f32 := win0_11.stage (cfg0.slots t 11)
abbrev stgW11 (t : Fin cfg0.N) : (stg11 t).IsWhole := hstage0_11 ((cfg0.slots t 11).cast nbuf0_11)
abbrev stg12 (t : Fin cfg0.N) : Memref sig .tc .vmem S8x512 .f32 := win0_12.stage (cfg0.slots t 12)
abbrev stgW12 (t : Fin cfg0.N) : (stg12 t).IsWhole := hstage0_12 ((cfg0.slots t 12).cast nbuf0_12)
abbrev stg13 (t : Fin cfg0.N) : Memref sig .tc .vmem S1x128 .f32 := win0_13.stage (cfg0.slots t 13)
abbrev stgW13 (t : Fin cfg0.N) : (stg13 t).IsWhole := hstage0_13 ((cfg0.slots t 13).cast nbuf0_13)
/-- The running counts' scratch buffer. -/
abbrev counts : Memref sig .tc .vmem S1x128 .f32 := Memref.whole cc0_scratch0

/-- What the region keeps between points: the scratch and the generator register, each at some contents. -/
theorem rest_eq (c : Dev nD) :
    (Pipeline.ΦA spec0 c : sProp 𝕄)
      = iprop(iprop((∃ d, owns (c : Thread nD τ) counts fullShare d)) ∗ (∃ r, prngReg c r)) := by
  unfold Pipeline.ΦA; rw [scopedRest0_eq]; simp only [counts, owns_whole]; try rfl

/-- The output windows nothing is said of. -/
def skipped : Fin 14 → Bool := fun w => w.val == 10 || w.val == 11 || w.val == 12 || w.val == 13

/-- The proof data: the arrays at the region's entry, each input's buffer left at its block, the first output's at the attention block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t)
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The arrays are what the region finds. -/
theorem arrays_eq (c : Dev nD) (w : Fin cfg0.W) : (dats m 0 c).A w = V m c (Pipeline.arrRef spec0 w) := by
  dsimp only [dats]

/-- What the body leaves in the named windows, and what it finds in the inputs'. -/
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) :
    (dats m 0 c).after 9 t = outBlock (iblk m c 0 t) (iblk m c 1 t) (iblk m c 2 t) (iblk m c 3 t) (iblk m c 4 t) := by dsimp only [dats]
theorem found0 (c : Dev nD) (t : Fin cfg0.N) (d) : (dats m 0 c).before 0 t d = iblk m c 0 t :=
  before0_0_of m (dats m 0 c) (arrays_eq m c 0) (left0 m c) t d
theorem found1 (c : Dev nD) (t : Fin cfg0.N) (d) : (dats m 0 c).before 1 t d = iblk m c 1 t :=
  before0_1_of m (dats m 0 c) (arrays_eq m c 1) (left1 m c) t d
theorem found2 (c : Dev nD) (t : Fin cfg0.N) (d) : (dats m 0 c).before 2 t d = iblk m c 2 t :=
  before0_2_of m (dats m 0 c) (arrays_eq m c 2) (left2 m c) t d
theorem found3 (c : Dev nD) (t : Fin cfg0.N) (d) : (dats m 0 c).before 3 t d = iblk m c 3 t :=
  before0_3_of m (dats m 0 c) (arrays_eq m c 3) (left3 m c) t d
theorem found4 (c : Dev nD) (t : Fin cfg0.N) (d) : (dats m 0 c).before 4 t d = iblk m c 4 t :=
  before0_4_of m (dats m 0 c) (arrays_eq m c 4) (left4 m c) t d
theorem found5 (c : Dev nD) (t : Fin cfg0.N) (d) : (dats m 0 c).before 5 t d = iblk m c 5 t :=
  before0_5_of m (dats m 0 c) (arrays_eq m c 5) (left5 m c) t d
theorem found6 (c : Dev nD) (t : Fin cfg0.N) (d) : (dats m 0 c).before 6 t d = iblk m c 6 t :=
  before0_6_of m (dats m 0 c) (arrays_eq m c 6) (left6 m c) t d
theorem found7 (c : Dev nD) (t : Fin cfg0.N) (d) : (dats m 0 c).before 7 t d = iblk m c 7 t :=
  before0_7_of m (dats m 0 c) (arrays_eq m c 7) (left7 m c) t d
theorem found8 (c : Dev nD) (t : Fin cfg0.N) (d) : (dats m 0 c).before 8 t d = iblk m c 8 t :=
  before0_8_of m (dats m 0 c) (arrays_eq m c 8) (left8 m c) t d

/-- What the body is called with at a point. -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare d)
    ∗ (∃ d, owns (c : Thread nD τ) (stg11 t) fullShare d)
    ∗ (∃ d, owns (c : Thread nD τ) (stg12 t) fullShare d)
    ∗ (∃ d, owns (c : Thread nD τ) (stg13 t) fullShare d))

/-- What it gives back. -/
def returned (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ (∃ d, owns (c : Thread nD τ) (stg10 t) fullShare d)
    ∗ (∃ d, owns (c : Thread nD τ) (stg11 t) fullShare d)
    ∗ (∃ d, owns (c : Thread nD τ) (stg12 t) fullShare d)
    ∗ (∃ d, owns (c : Thread nD τ) (stg13 t) fullShare d))

set_option maxHeartbeats 9600000 in
/-- The body at any point. -/
theorem body_sound (c : Dev nD) (t : Fin cfg0.N) :
    given m c t ⊢ wp frame (wpE (defs₀ (F := F)) Variants.none c none) Set.univ (bodyAt0 t) (fun _ => returned m c t) := by
  unfold given returned bodyAt0
  simp only [found0, found1, found2, found3, found4, found5, found6, found7, found8]
  rw [show (dats m 0 c).owesAt () t.succ = (dats m 0 c).owesAt () t.castSucc from rfl,
    left0, left1, left2, left3, left4, left5, left6, left7, left8, left9,
    show (dats m 0 c).Φ t.castSucc = Pipeline.ΦA spec0 c from rfl, show (dats m 0 c).Φ t.succ = Pipeline.ΦA spec0 c from rfl, rest_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS]; · iexact HS
  iintro ⟨H0, H1, H2, H3, H4, H5, H6, H7, H8, H9, H10, H11, H12, H13, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ skipped := fun t => by
  rw [bigSep_W0, bigSep_W0, row_eq]
  exact triple_restated (body_sound m c t) rfl .rfl fun _ => .rfl

set_option backward.isDefEq.respectTransparency.types false in
/-- The launch: every run ends with the arrays as the proof data say and every counter at zero. -/
theorem launched : θ_run defs (onTc (τ := τ) (main (F := F))) (s₀ m ρ)
    (fun r => (Pipeline.RDat.FramePost (cfgs 0) (fun c => (dats m 0 c).toRForget skipped) (V m)) r ∧ r.2.sem = fun _ => 0) :=
  Pipeline.θ_run_frame_track_forget (Q' := _) cfgs (dats m) (0 : Fin 1) launch0 defs₀ Variants.none skipped m ρ main
    (hbody := fun c => (obligation m c).loose) (hshare := fun c => (dats m 0 c).share_full fun _ => rfl)
    (howed := fun _ _ => rfl) (V := V m) (hmain := hmain m Variants.none) (hA := arrays_eq m)
    (hin := fun _ => Idealize.SL.BI.Entails.refl _) (hout := fun _ => Idealize.SL.BI.Entails.refl _)

/-- The argument arrays end as they were, and the result array as the proof data say. -/
theorem result : θ_run defs (onTc (τ := τ) (main (F := F))) ⟨m, fun _ => 0, ρ⟩ (fun r => (∀ c : Dev nD,
      r.2.mem ((c.tc : Thread nD τ).loc main_v26_0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hr => ⟨fun c => have h := hr.1; ⟨((dats m 0 c).toRForget_arrAt_iff (fgt := skipped) (w := 9) rfl _ _).mp ((h c).1 9),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((((dats m 0 c).toRForget_arrAt_iff (fgt := skipped) (w := 3) rfl _ _).mp ((h c).1 3)).trans (((dats m 0 c).arrAt_in 3 rfl _).trans ((arrays_eq m c 3).trans (V_main_arg3 m c)))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩, hr.2⟩) (launched m ρ)

end Cert.KernelIdeal.Attn

end
-- ==== Proof.Value.Kernel.lean ====
/-
The block one grid point of the attention kernel stores, read at a row and a column: the layer's output of that row. -/
module

public import proofs.«01_k».proof.Proof.Ideal.Block
public import proofs.«01_k».proof.Proof.Value.Math

@[expose] public section
set_option maxRecDepth 16384

noncomputable section
namespace Cert.KernelIdeal.Attn
open Cert.KernelIdeal.Gen Cert.Attn
open Idealize.ShloMosaic Idealize.ShloMosaic.TcCoe Idealize.ShloMosaic.Tactic

variable (x : FVec Ideal S512x2048 .f32) (g : FVec Ideal S1x2048 .f32) (r : Fin 512)

theorem named_scale : (Named.named κ "scale" 0x3D3504F3#32 : Ideal .f32) = scale := rfl

/-- The normed block. -/
theorem normed_at (c : Fin 2048) : k0_pay5 (F := Ideal) x g (ix2 r c) = norm (fun k => x (ix2 r k)) (fun k => g (ix2 0 k)) c := by
  pointwise [k0_pay5, k0_pay4]; rfl

/-- The first head's scores. -/
theorem scores0_at (w : FVec Ideal S2048x512 .bf16) (k : FVec Ideal S256x512 .bf16) (j : Fin 256) :
    k0_pay6 (F := Ideal) x g w k (ix2 r j)
      = score (query (norm (fun k => x (ix2 r k)) fun k => g (ix2 0 k)) fun a d => w (ix2 a d)) (fun j d => k (ix2 j d)) j := by
  pointwise [k0_pay6]; simp only [normed_at]; rfl

/-- The second head's queries. -/
theorem query1_at (w : FVec Ideal S2048x512 .bf16) (d : Fin 512) :
    k0_pay7 (F := Ideal) x g w (ix2 r d) = query (norm (fun k => x (ix2 r k)) fun k => g (ix2 0 k)) (fun a d => w (ix2 a d)) d := by
  pointwise [k0_pay7]; simp only [normed_at]; rfl

/-- The third head's queries. -/
theorem query2_at (n : FVec Ideal S512x2048 .bf16) (w : FVec Ideal S2048x512 .bf16) (d : Fin 512) :
    k0_pay9 (F := Ideal) n w (ix2 r d) = query (fun k => n (ix2 r k)) (fun a d => w (ix2 a d)) d := by
  pointwise [k0_pay9]; rfl

/-- The block with the first head added. -/
theorem acc0_step (v : FVec Ideal S256x512 .bf16) (s : FVec Ideal S512x256 .f32) (wo : FVec Ideal S512x2048 .bf16) (c : Fin 2048) :
    k0_pay8 (F := Ideal) x v s wo (ix2 r c)
      = x (ix2 r c) + head (fun j => s (ix2 r j)) (fun j d => v (ix2 j d)) fun d => wo (ix2 d c) := by
  pointwise [k0_pay8]; rfl

/-- The second head's weighted values. -/
theorem mixed1_at (q : FVec Ideal S512x512 .bf16) (k v : FVec Ideal S256x512 .bf16) (d : Fin 512) :
    k0_pay10 (F := Ideal) q k v (ix2 r d) = mixed (score (fun d => q (ix2 r d)) fun j d => k (ix2 j d)) (fun j d => v (ix2 j d)) d := by
  pointwise [k0_pay10]; rfl

/-- The second and third heads added. -/
theorem acc2_step (q o : FVec Ideal S512x512 .bf16) (wo1 : FVec Ideal S512x2048 .bf16) (k v : FVec Ideal S256x512 .bf16)
    (wo : FVec Ideal S512x2048 .bf16) (c : Fin 2048) :
    k0_pay12 (F := Ideal) x q o wo1 (constant S512x2048 .f32 0x00000000#32) k v wo (ix2 r c)
      = x (ix2 r c) + (∑ d, o (ix2 r d) * wo1 (ix2 d c))
        + head (score (fun d => q (ix2 r d)) fun j d => k (ix2 j d)) (fun j d => v (ix2 j d)) fun d => wo (ix2 d c) := by
  pointwise [k0_pay12]; rfl

/-- The fourth head's shifted exponentials. -/
theorem shifted3_at (n : FVec Ideal S512x2048 .bf16) (w : FVec Ideal S2048x512 .bf16) (k : FVec Ideal S256x512 .bf16) (j : Fin 256) :
    k0_pay13 (F := Ideal) n w k (ix2 r j)
      = shifted (score (query (fun k => n (ix2 r k)) fun a d => w (ix2 a d)) fun j d => k (ix2 j d)) j := by
  pointwise [k0_pay13]; rfl

/-- The fourth head added. -/
theorem acc3_step (v : FVec Ideal S256x512 .bf16) (e : FVec Ideal S512x256 .f32) (wo : FVec Ideal S512x2048 .bf16) (c : Fin 2048) :
    k0_pay14 (F := Ideal) x v e wo (ix2 r c)
      = x (ix2 r c) + ∑ d, (∑ j, Ideal.div (e (ix2 r j)) (∑ k, e (ix2 r k)) * v (ix2 j d)) * wo (ix2 d c) := by
  pointwise [k0_pay14]

/-- Loads of a head's columns and rows. -/
theorem wqCols_at (w : FVec Ideal S2048x2048 .bf16) (h : Fin 4) (o : Nat) (ho : o = h.val * 512) (inb) (a : Fin 2048) (d : Fin 512) :
    wqCols (F := Ideal) w o inb (ix2 a d) = w (ix2 a (at4 h d)) := by
  subst ho; unfold wqCols at4; pointwise
theorem kCols_at (w : FVec Ideal S256x4096 .bf16) (h : Fin 4) (o : Nat) (ho : o = h.val * 512) (inb) (a : Fin 256) (d : Fin 512) :
    kvCols (F := Ideal) w o inb (ix2 a d) = w (ix2 a (keyAt h d)) := by
  subst ho; unfold kvCols keyAt; pointwise
theorem vCols_at (w : FVec Ideal S256x4096 .bf16) (h : Fin 4) (o : Nat) (ho : o = 2048 + h.val * 512) (inb) (a : Fin 256) (d : Fin 512) :
    kvCols (F := Ideal) w o inb (ix2 a d) = w (ix2 a (valAt h d)) := by
  subst ho; unfold kvCols valAt; pointwise; simp only [Nat.add_assoc]
theorem woRows_at (w : FVec Ideal S2048x2048 .bf16) (h : Fin 4) (o : Nat) (ho : o = h.val * 512) (inb) (d : Fin 512) (c : Fin 2048) :
    woRows (F := Ideal) w o inb (ix2 d c) = w (ix2 (at4 h d) c) := by
  subst ho; unfold woRows at4; pointwise

variable (wq : FVec Ideal S2048x2048 .bf16) (kv : FVec Ideal S256x4096 .bf16) (wo : FVec Ideal S2048x2048 .bf16)

/-- The stored block at row `r`, column `c`. -/
theorem outBlock_at (c : Fin 2048) :
    outBlock (F := Ideal) x g wq kv wo (ix2 r c)
      = out (fun k => x (ix2 r k)) (fun k => g (ix2 0 k)) (fun a b => wq (ix2 a b)) (fun j e => kv (ix2 j e)) (fun a b => wo (ix2 a b)) c := by
  have whole : k0_pay4 x (ix2 r c) = x (ix2 r c) := by pointwise [k0_pay4]
  have wo1 (d : Fin 512) : k0_pay11 (woRows wo 512 inb_S2048x2048_S512x2048_512_0) (ix2 d c) = wo (ix2 (at4 1 d) c) := by
    pointwise [k0_pay11]; exact woRows_at wo 1 512 rfl _ d c
  unfold outBlock acc2 acc0 out
  simp only [acc3_step, acc2_step, acc0_step, shifted3_at, mixed1_at, query1_at, query2_at, scores0_at, normed_at, whole, wo1,
    Fin.sum_univ_four]
  simp only [wqCols_at wq 0 0 rfl, wqCols_at wq 1 512 rfl, wqCols_at wq 2 1024 rfl, wqCols_at wq 3 1536 rfl,
    kCols_at kv 0 0 rfl, kCols_at kv 1 512 rfl, kCols_at kv 2 1024 rfl, kCols_at kv 3 1536 rfl,
    vCols_at kv 0 2048 rfl, vCols_at kv 1 2560 rfl, vCols_at kv 2 3072 rfl, vCols_at kv 3 3584 rfl,
    woRows_at wo 0 0 rfl, woRows_at wo 2 1024 rfl, woRows_at wo 3 1536 rfl]
  simp only [add_assoc]
  rfl

end Cert.KernelIdeal.Attn
end
-- ==== Proof.Value.Final.lean ====
/-
The kernel's whole result array: every block of it is the layer's output of the block's rows, and the blocks cover it.
-/
module

public import proofs.«01_k».proof.Proof.Ideal.Frame
public import proofs.«01_k».proof.Proof.Value.Kernel
public import proofs.«01_k».proof.Proof.Value.Reference
public import Idealize.ShloMosaic.Lib.Pipeline.ValueKit
public import Idealize.ShloMosaic.Lib.Claim

@[expose] public section
set_option maxRecDepth 16384

noncomputable section
namespace Cert.KernelIdeal.Attn
open Cert.KernelIdeal.Gen Cert.Attn
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem index0 : ∀ t : Fin cfg0.N, win0_0.index t = ![(grid0.coords t 0).val * 16 + (grid0.coords t 1).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![0, 0] := (by decide +kernel : ∀ t : Fin grid0.N, _)
theorem index9 : ∀ t : Fin cfg0.N, win0_9.index t = ![(grid0.coords t 0).val * 16 + (grid0.coords t 1).val, 0] := (by decide +kernel : ∀ t : Fin grid0.N, _)

theorem point_lt (t : Fin cfg0.N) : (grid0.coords t 0).val < 2 ∧ (grid0.coords t 1).val < 16 := ⟨(grid0.coords t 0).isLt, (grid0.coords t 1).isLt⟩

/-- The array's row that a block's row is. -/
def rowOf (t : Fin cfg0.N) (r : Fin 512) : Fin 16384 :=
  ⟨((grid0.coords t 0).val * 16 + (grid0.coords t 1).val) * 512 + r.val, by have := point_lt t; omega⟩

theorem rowOf_div (t : Fin cfg0.N) (r : Fin 512) : (rowOf t r).val / 8192 = (grid0.coords t 0).val := by
  have := point_lt t; simp only [rowOf]; omega

theorem placed (t : Fin cfg0.N) (r : Fin 512) (k : Fin 2048) : (win0_9.blk t).view.emb (ix2 r k) = ix2 (rowOf t r) k := by
  blk_ext [index9, rowOf]

/-- The input as rows, and the norm's weights as one row: what the host hands the region. -/
theorem host0 : V m c main_v0 = shapeCast S16384x2048 (m ((c.tc : Thread nD τ).loc main_arg0)) shapeCasts_S2x8192x2048_S16384x2048 := by
  entry_read; rfl
theorem host1 : V m c main_v24 = shapeCast S1x2048 (m ((c.tc : Thread nD τ).loc main_arg1)) shapeCasts_S2048_S1x2048 := by
  entry_read; rfl

/-- A row of the flattened input. -/
theorem rows_at (x : FVec Ideal S2x8192x2048 .f32) (q : Fin 16384) (k : Fin 2048) :
    shapeCast S16384x2048 x shapeCasts_S2x8192x2048_S16384x2048 (ix2 q k)
      = x (ix3 ⟨q.val / 8192, by omega⟩ ⟨q.val % 8192, by omega⟩ k) := by
  pointwise

theorem input0 (t : Fin cfg0.N) (r : Fin 512) (k : Fin 2048) :
    iblk m c 0 t (ix2 r k) = m ((c.tc : Thread nD τ).loc main_arg0) (ix3 ⟨(rowOf t r).val / 8192, by omega⟩ ⟨(rowOf t r).val % 8192, by omega⟩ k) := by
  have h : (win0_0.blk t).view.emb (ix2 r k) = ix2 (rowOf t r) k := by blk_ext [index0, rowOf]
  show V m c main_v0 ((win0_0.blk t).view.emb (ix2 r k)) = _
  rw [host0, h, rows_at]

theorem input1 (t : Fin cfg0.N) (k : Fin 2048) :
    iblk m c 1 t (ix2 0 k) = m ((c.tc : Thread nD τ).loc main_arg1) (ix1 k) := by
  have h : (win0_1.blk t).view.emb (ix2 0 k) = ix2 0 k := by blk_ext [index1]
  show V m c main_v24 ((win0_1.blk t).view.emb (ix2 0 k)) = _
  rw [host1, h]
  pointwise

theorem input2 (t : Fin cfg0.N) (a : Fin 2048) (b : Fin 2048) :
    iblk m c 2 t (ix2 a b) = m ((c.tc : Thread nD τ).loc main_arg2) (ix2 a b) := by
  blk_point [iblk, V, index2 t]

theorem input3 (t : Fin cfg0.N) (j : Fin 256) (e : Fin 4096) :
    iblk m c 3 t (ix2 j e) = m ((c.tc : Thread nD τ).loc main_arg3) (ix2 (Cert.ReferenceIdeal.Attn.kvRow (grid0.coords t 0) j) e) := by
  blk_point [iblk, V, index3 t, Cert.ReferenceIdeal.Attn.kvRow]

theorem input4 (t : Fin cfg0.N) (a : Fin 2048) (b : Fin 2048) :
    iblk m c 4 t (ix2 a b) = m ((c.tc : Thread nD τ).loc main_arg4) (ix2 a b) := by
  blk_point [iblk, V, index4 t]

theorem final : (dats m 0 c).arrAt 9 cfg0.N
    = Cert.ReferenceIdeal.Attn.attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine Dat.arrAt_eq_of_covers (dats m 0 c) 9 _ (by decide +kernel) fun t hf y => ?_
  blk_simp [index9]
  rw [left9]
  obtain ⟨r, k, rfl⟩ : ∃ (r : Fin 512) (k : Fin 2048), y = ix2 r k := ⟨y 0, y 1, by funext a; fin_cases a <;> rfl⟩
  rw [placed, outBlock_at, Cert.ReferenceIdeal.Attn.attention_at]
  simp only [input0, input1, input2, input3, input4]
  congr 1
  funext j e
  congr 2
  exact congrArg (fun b => Cert.ReferenceIdeal.Attn.kvRow b j) (Fin.ext (rowOf_div t r).symm)

end Cert.KernelIdeal.Attn
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Combine.Frame
public import proofs.«01_k».proof.Proof.Gen.CombineIdeal.Frame
public import proofs.«01_k».proof.Proof.Gen.CombineIdeal.Value
public import proofs.«01_k».proof.Proof.Gen.CombineRefIdeal.Run
public import proofs.«01_k».proof.Proof.Combine.Final
public import proofs.«01_k».proof.Proof.Gen.Project.Frame
public import proofs.«01_k».proof.Proof.Gen.ProjectIdeal.Frame
public import proofs.«01_k».proof.Proof.Gen.ProjectIdeal.Value
public import proofs.«01_k».proof.Proof.Gen.ProjectRefIdeal.Run
public import proofs.«01_k».proof.Proof.Project.Final
public import proofs.«01_k».proof.Proof.Gen.Memory.Frame
public import proofs.«01_k».proof.Proof.Gen.MemoryIdeal.Frame
public import proofs.«01_k».proof.Proof.Gen.MemoryIdeal.Value
public import proofs.«01_k».proof.Proof.Gen.MemoryRefIdeal.Run
public import proofs.«01_k».proof.Proof.Memory.Final
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Conv.Final
public import proofs.«01_k».proof.Proof.Gen.Disc.Frame
public import proofs.«01_k».proof.Proof.Gen.DiscIdeal.Frame
public import proofs.«01_k».proof.Proof.Gen.DiscIdeal.Value
public import proofs.«01_k».proof.Proof.Gen.DiscRefIdeal.Run
public import proofs.«01_k».proof.Proof.Disc.Final
public import proofs.«01_k».proof.Proof.Bits.Frame
public import proofs.«01_k».proof.Proof.Ideal.Frame
public import proofs.«01_k».proof.Proof.Value.Final
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The value of `Combine`: the gated branches. -/
theorem value_Combine : algebraic_CombineIdeal_CombineRefIdeal (hCombineIdeal := Cert.CombineIdeal.Gen.facts) (hCombineRefIdeal := Cert.CombineRefIdeal.Gen.facts) :=
  fun m g m' g' _ ha => ⟨fun c => (Cert.CombineIdeal.Gen.dats m 0 c).arrAt 9 Cert.CombineIdeal.cfg0.N,
    Cert.CombineIdeal.Value.run_blocks m g,
    θ_run_mono (Cert.CombineRefIdeal.Value.run m' g') fun _ h c => ⟨by
      refine (h c).1.trans (.trans (b := Cert.CombineRefIdeal.Layer.combine (m' ((c.tc : Thread Cert.CombineRefIdeal.nD Cert.CombineRefIdeal.τ).loc Cert.CombineRefIdeal.main_arg0)) (m' ((c.tc : Thread Cert.CombineRefIdeal.nD Cert.CombineRefIdeal.τ).loc Cert.CombineRefIdeal.main_arg1)) (m' ((c.tc : Thread Cert.CombineRefIdeal.nD Cert.CombineRefIdeal.τ).loc Cert.CombineRefIdeal.main_arg2)) (m' ((c.tc : Thread Cert.CombineRefIdeal.nD Cert.CombineRefIdeal.τ).loc Cert.CombineRefIdeal.main_arg3)) (m' ((c.tc : Thread Cert.CombineRefIdeal.nD Cert.CombineRefIdeal.τ).loc Cert.CombineRefIdeal.main_arg4)) (m' ((c.tc : Thread Cert.CombineRefIdeal.nD Cert.CombineRefIdeal.τ).loc Cert.CombineRefIdeal.main_arg5))) rfl ?_)
      obtain ⟨h0, h1, h2, h3, h4, h5⟩ := ha c
      rw [h0, h1, h2, h3, h4, h5]
      exact (Cert.CombineIdeal.Layer.final m c).symm, (h c).2⟩⟩

/-- The value of `Project`: the input projection. -/
theorem value_Project : algebraic_ProjectIdeal_ProjectRefIdeal (hProjectIdeal := Cert.ProjectIdeal.Gen.facts) (hProjectRefIdeal := Cert.ProjectRefIdeal.Gen.facts) :=
  fun m g m' g' _ ha => ⟨fun c => (Cert.ProjectIdeal.Gen.dats m 0 c).arrAt 3 Cert.ProjectIdeal.cfg0.N,
    Cert.ProjectIdeal.Value.run_blocks m g,
    θ_run_mono (Cert.ProjectRefIdeal.Value.run m' g') fun _ h c => ⟨by
      refine (h c).1.trans (.trans (b := Cert.ProjectRefIdeal.Layer.project (m' ((c.tc : Thread Cert.ProjectRefIdeal.nD Cert.ProjectRefIdeal.τ).loc Cert.ProjectRefIdeal.main_arg0)) (m' ((c.tc : Thread Cert.ProjectRefIdeal.nD Cert.ProjectRefIdeal.τ).loc Cert.ProjectRefIdeal.main_arg1)) (m' ((c.tc : Thread Cert.ProjectRefIdeal.nD Cert.ProjectRefIdeal.τ).loc Cert.ProjectRefIdeal.main_arg2))) rfl ?_)
      obtain ⟨h0, h1, h2⟩ := ha c
      rw [h0, h1, h2]
      exact (Cert.ProjectIdeal.Layer.final m c).symm, (h c).2⟩⟩

/-- The value of `Memory`: keys and values. -/
theorem value_Memory : algebraic_MemoryIdeal_MemoryRefIdeal (hMemoryIdeal := Cert.MemoryIdeal.Gen.facts) (hMemoryRefIdeal := Cert.MemoryRefIdeal.Gen.facts) :=
  fun m g m' g' _ ha => ⟨fun c => (Cert.MemoryIdeal.Gen.dats m 0 c).arrAt 3 Cert.MemoryIdeal.cfg0.N,
    Cert.MemoryIdeal.Value.run_blocks m g,
    θ_run_mono (Cert.MemoryRefIdeal.Value.run m' g') fun _ h c => ⟨by
      refine (h c).1.trans (.trans (b := Cert.MemoryRefIdeal.Layer.memory (m' ((c.tc : Thread Cert.MemoryRefIdeal.nD Cert.MemoryRefIdeal.τ).loc Cert.MemoryRefIdeal.main_arg0)) (m' ((c.tc : Thread Cert.MemoryRefIdeal.nD Cert.MemoryRefIdeal.τ).loc Cert.MemoryRefIdeal.main_arg1)) (m' ((c.tc : Thread Cert.MemoryRefIdeal.nD Cert.MemoryRefIdeal.τ).loc Cert.MemoryRefIdeal.main_arg2)) (m' ((c.tc : Thread Cert.MemoryRefIdeal.nD Cert.MemoryRefIdeal.τ).loc Cert.MemoryRefIdeal.main_arg3))) rfl ?_)
      obtain ⟨h0, h1, h2, h3⟩ := ha c
      rw [h0, h1, h2, h3]
      exact (Cert.MemoryIdeal.Layer.final m c).symm, (h c).2⟩⟩

/-- The value of `Conv`: the convolution branch. -/
theorem value_Conv : algebraic_ConvIdeal_ConvRefIdeal (hConvIdeal := Cert.ConvIdeal.Gen.facts) (hConvRefIdeal := Cert.ConvRefIdeal.Gen.facts) :=
  fun m g m' g' _ ha => ⟨fun c => (Cert.ConvIdeal.Gen.dats m 0 c).arrAt 9 Cert.ConvIdeal.cfg0.N,
    Cert.ConvIdeal.Value.run_blocks m g,
    θ_run_mono (Cert.ConvRefIdeal.Value.run m' g') fun _ h c => ⟨by
      refine (h c).1.trans ((Cert.ConvRefIdeal.Layer.whole m' c).trans ?_)
      obtain ⟨h0, h1, h2, h3, h4, h5⟩ := ha c
      rw [h0, h1, h2, h3, h4, h5]
      exact (Cert.ConvIdeal.Layer.final m c).symm, (h c).2⟩⟩

/-- The value of `Disc`: the discretisation's four arrays. -/
theorem value_Disc : algebraic_DiscIdeal_DiscRefIdeal (hDiscIdeal := Cert.DiscIdeal.Gen.facts) (hDiscRefIdeal := Cert.DiscRefIdeal.Gen.facts) :=
  fun m g m' g' _ ha => ⟨fun c => (Cert.DiscIdeal.Gen.dats m 0 c).arrAt 5 Cert.DiscIdeal.cfg0.N,
    fun c => (Cert.DiscIdeal.Gen.dats m 0 c).arrAt 6 Cert.DiscIdeal.cfg0.N,
    fun c => (Cert.DiscIdeal.Gen.dats m 0 c).arrAt 7 Cert.DiscIdeal.cfg0.N,
    fun c => (Cert.DiscIdeal.Gen.dats m 0 c).arrAt 8 Cert.DiscIdeal.cfg0.N,
    Cert.DiscIdeal.Value.run_blocks m g,
    θ_run_mono (Cert.DiscRefIdeal.Value.run m' g') fun _ h c => by
      obtain ⟨r0, r1, r2, r3, kept⟩ := h c
      obtain ⟨h0, h1, h2, h3, h4⟩ := ha c
      refine ⟨r0.trans ?_, r1.trans ?_, r2.trans ?_, r3.trans ?_, kept⟩
      · rw [h0, h1, h2]; exact (Cert.DiscIdeal.Layer.final_re m c).symm
      · rw [h0, h1, h2]; exact (Cert.DiscIdeal.Layer.final_im m c).symm
      · rw [h0, h1, h2, h3, h4]; exact (Cert.DiscIdeal.Layer.final_in_re m c).symm
      · rw [h0, h1, h2, h3, h4]; exact (Cert.DiscIdeal.Layer.final_in_im m c).symm⟩

theorem claim : Cert.Claim := ⟨Cert.Kernel.Gen.facts, Cert.KernelIdeal.Gen.facts, Cert.ReferenceIdeal.Gen.facts,
  Cert.Combine.Gen.facts, Cert.CombineIdeal.Gen.facts, Cert.CombineRefIdeal.Gen.facts, Cert.Project.Gen.facts, Cert.ProjectIdeal.Gen.facts, Cert.ProjectRefIdeal.Gen.facts, Cert.Memory.Gen.facts, Cert.MemoryIdeal.Gen.facts, Cert.MemoryRefIdeal.Gen.facts,
  Cert.Conv.Gen.facts, Cert.ConvIdeal.Gen.facts, Cert.ConvRefIdeal.Gen.facts,
  Cert.Disc.Gen.facts, Cert.DiscIdeal.Gen.facts, Cert.DiscRefIdeal.Gen.facts,
  fun m g _ => Cert.Kernel.Attn.result m g,
  fun m g _ => θ_run_mono (Cert.KernelIdeal.Attn.result m g) fun _ h => ⟨fun c => (h.1 c).2, h.2⟩,
  fun m g _ => θ_run_mono (Cert.ReferenceIdeal.Value.run m g) fun r h => ⟨fun c => (h c).2, sem_eq_zero_of_no_sems (by decide) r.2⟩,
  fun m g _ => Cert.Combine.Gen.frame m g,
  fun m g _ => Cert.CombineIdeal.Gen.frame m g,
  fun m g _ => θ_run_mono (Cert.CombineRefIdeal.Value.run m g) fun r h => ⟨fun c => (h c).2, sem_eq_zero_of_no_sems (by decide) r.2⟩,
  fun m g _ => Cert.Project.Gen.frame m g,
  fun m g _ => Cert.ProjectIdeal.Gen.frame m g,
  fun m g _ => θ_run_mono (Cert.ProjectRefIdeal.Value.run m g) fun r h => ⟨fun c => (h c).2, sem_eq_zero_of_no_sems (by decide) r.2⟩,
  fun m g _ => Cert.Memory.Gen.frame m g,
  fun m g _ => Cert.MemoryIdeal.Gen.frame m g,
  fun m g _ => θ_run_mono (Cert.MemoryRefIdeal.Value.run m g) fun r h => ⟨fun c => (h c).2, sem_eq_zero_of_no_sems (by decide) r.2⟩,
  fun m g _ => Cert.Conv.Gen.frame m g,
  fun m g _ => Cert.ConvIdeal.Gen.frame m g,
  fun m g _ => θ_run_mono (Cert.ConvRefIdeal.Value.run m g) fun r h => ⟨fun c => (h c).2, sem_eq_zero_of_no_sems (by decide) r.2⟩,
  fun m g _ => Cert.Disc.Gen.frame m g,
  fun m g _ => Cert.DiscIdeal.Gen.frame m g,
  fun m g _ => θ_run_mono (Cert.DiscRefIdeal.Value.run m g) fun r h => ⟨fun c => (h c).2.2.2.2, sem_eq_zero_of_no_sems (by decide) r.2⟩,
  ⟨IdealRules.bf16_pair.bufferStatement _ _, IdealRules.bf16_pair.bufferStatement _ _, IdealRules.named_const.statement _ _ _ _ _ rfl,
    IdealRules.bf16_pair.packStatement _, IdealRules.bf16_pair.statement _ _⟩,
  fun m g m' g' _ ha => ⟨fun c => (Cert.KernelIdeal.Attn.dats m 0 c).arrAt 9 Cert.KernelIdeal.cfg0.N,
    θ_run_mono (Cert.KernelIdeal.Attn.result m g) fun _ h => h.1,
    θ_run_mono (Cert.ReferenceIdeal.Value.run m' g') fun _ h c => ⟨by
      refine (h c).1.trans ((Cert.ReferenceIdeal.Attn.staged m' c).trans ?_)
      obtain ⟨h0, h1, h2, h3, h4, -⟩ := ha c
      rw [h0, h1, h2, h3, h4]
      exact (Cert.KernelIdeal.Attn.final m c).symm, (h c).2⟩⟩,
  trivial, value_Combine, trivial, value_Project, trivial, value_Memory, trivial, value_Conv, trivial, value_Disc⟩

end Cert.Proof

end
